-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "no_underflow" .f32 0x43170000#32 ⊤
  ∧ IdealRules.named_const.Statement Cert.KernelIdeal.κ "neg_log2e" .f32 0xBFB8AA3B#32 ((-((Real.log 2)⁻¹) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S64x16384x128 : Shape := ⟨3, ![64, 16384, 128]⟩
abbrev S_ : Shape := ⟨0, ![]⟩

class Facts : Prop where
  bitsLt_bf16_f32 : FTy.bits .bf16 < FTy.bits .f32
  bcast_S_S64x16384x128 : S_.BroadcastsInDim S64x16384x128 (![] : Fin 0 → Fin S64x16384x128.rank)
  reducesTo_S64x16384x128_S_d0_1_2 : S64x16384x128.ReducesTo [0, 1, 2] S_
  h_S_ : 0 < S_.numel

variable [Facts]

def fn {F : FTy → Type} [FloatOps F] (main_arg0 : FVec F S64x16384x128 .bf16) : IVec S_ 1 :=
  let main_v0 : FVec F S64x16384x128 .f32 := (extf .f32 · bitsLt_bf16_f32) main_arg0
  let main_v1 : FVec F S64x16384x128 .f32 := Host.absf main_v0
  let main_cst : FVec F S_ .f32 := constant S_ .f32 0x7F800000#32
  let main_v2 : FVec F S64x16384x128 .f32 := broadcastInDim S64x16384x128 ![] bcast_S_S64x16384x128 main_cst
  let main_v3 : IVec S64x16384x128 1 := cmpf .olt main_v1 main_v2
  let main_c : IVec S_ 1 := constantI S_ 1 1#1
  let main_v4 : IVec S_ 1 := (fun x v => Host.reduce IntOp.andi x v reducesTo_S64x16384x128_S_d0_1_2 h_S_) main_v3 main_c
  main_v4
-- ==== Kernel.lean ====
abbrev S64x16384x128 : Shape := ⟨3, ![64, 16384, 128]⟩
abbrev S256x256 : Shape := ⟨2, ![256, 256]⟩
abbrev S_ : Shape := ⟨0, ![]⟩
abbrev S16384x2048 : Shape := ⟨2, ![16384, 2048]⟩
abbrev S16x256x128 : Shape := ⟨3, ![16, 256, 128]⟩
abbrev S256x2048 : Shape := ⟨2, ![256, 2048]⟩
abbrev S2x16 : Shape := ⟨2, ![2, 16]⟩
abbrev S1x256x128 : Shape := ⟨3, ![1, 256, 128]⟩
abbrev S256x128 : Shape := ⟨2, ![256, 128]⟩
abbrev S2048x256 : Shape := ⟨2, ![2048, 256]⟩
abbrev S256x1 : Shape := ⟨2, ![256, 1]⟩
abbrev S1x16x256x128 : Shape := ⟨4, ![1, 16, 256, 128]⟩
abbrev S1 : Shape := ⟨1, ![1]⟩
abbrev S1x1x1x1 : Shape := ⟨4, ![1, 1, 1, 1]⟩
abbrev S1x1 : Shape := ⟨2, ![1, 1]⟩

abbrev nBuf : Space → Nat
  | .hbm => 11
  | .vmem => 19
  | .smem => 0
  | _ => 0

abbrev bufTy : (tb : Table) → Fin (tcTables nBuf tb) → BufTy
  | .hbm, ⟨0, _⟩ => ⟨S64x16384x128, .bf16⟩
  | .hbm, ⟨1, _⟩ => ⟨S256x256, .i32⟩
  | .hbm, ⟨2, _⟩ => ⟨S256x256, .i32⟩
  | .hbm, ⟨3, _⟩ => ⟨S256x256, .i1⟩
  | .hbm, ⟨4, _⟩ => ⟨S_, .f32⟩
  | .hbm, ⟨5, _⟩ => ⟨S_, .f32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S256x256, .bf16⟩
  | .hbm, ⟨10, _⟩ => ⟨S16384x2048, .bf16⟩
  | .local _ .vmem, ⟨0, _⟩ => ⟨S16x256x128, .bf16⟩
  | .local _ .vmem, ⟨1, _⟩ => ⟨S16x256x128, .bf16⟩
  | .local _ .vmem, ⟨2, _⟩ => ⟨S16x256x128, .bf16⟩
  | .local _ .vmem, ⟨3, _⟩ => ⟨S16x256x128, .bf16⟩
  | .local _ .vmem, ⟨4, _⟩ => ⟨S16x256x128, .bf16⟩
  | .local _ .vmem, ⟨5, _⟩ => ⟨S16x256x128, .bf16⟩
  | .local _ .vmem, ⟨6, _⟩ => ⟨S16x256x128, .bf16⟩
  | .local _ .vmem, ⟨7, _⟩ => ⟨S16x256x128, .bf16⟩
  | .local _ .vmem, ⟨8, _⟩ => ⟨S16x256x128, .bf16⟩
  | .local _ .vmem, ⟨9, _⟩ => ⟨S16x256x128, .bf16⟩
  | .local _ .vmem, ⟨10, _⟩ => ⟨S16x256x128, .bf16⟩
  | .local _ .vmem, ⟨11, _⟩ => ⟨S16x256x128, .bf16⟩
  | .local _ .vmem, ⟨12, _⟩ => ⟨S256x256, .bf16⟩
  | .local _ .vmem, ⟨13, _⟩ => ⟨S256x2048, .bf16⟩
  | .local _ .vmem, ⟨14, _⟩ => ⟨S256x2048, .bf16⟩
  | .local _ .vmem, ⟨15, _⟩ => ⟨S16x256x128, .f32⟩
  | .local _ .vmem, ⟨16, _⟩ => ⟨S16x256x128, .f32⟩
  | .local _ .vmem, ⟨17, _⟩ => ⟨S16x256x128, .bf16⟩
  | .local _ .vmem, ⟨18, _⟩ => ⟨S16x256x128, .bf16⟩
  | _, _ => ⟨S64x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![64], ![false]⟩

def k0_mult1 (arg15 : BitVec 32) : BitVec 32 :=
  let c256_i32 : BitVec 32 := 256#32
  let v1403 : BitVec 32 := Scalar.muli arg15 c256_i32
  v1403

def k0_off1 (arg15 : BitVec 32) : Fin 3 → Nat :=
  let c16_i32 : BitVec 32 := 16#32
  let c256_i32 : BitVec 32 := 256#32
  let v1403 : BitVec 32 := Scalar.muli arg15 c256_i32
  let v1404 : BitVec 32 := v1403
  let c0_i32_773 : BitVec 32 := 0#32
  ![16, v1404.toNat, 0]
def k0_off2 (arg15 : BitVec 32) : Fin 3 → Nat :=
  let c32_i32 : BitVec 32 := 32#32
  let c256_i32 : BitVec 32 := 256#32
  let v1403 : BitVec 32 := Scalar.muli arg15 c256_i32
  let v1404 : BitVec 32 := v1403
  let c0_i32_778 : BitVec 32 := 0#32
  ![32, v1404.toNat, 0]
def k0_mult2 (arg15 : BitVec 32) : BitVec 32 :=
  let c256_i32_779 : BitVec 32 := 256#32
  let v1417 : BitVec 32 := Scalar.muli arg15 c256_i32_779
  v1417
def k0_off3 (arg15 : BitVec 32) : Fin 3 → Nat :=
  let c17_i32 : BitVec 32 := 17#32
  let c256_i32_779 : BitVec 32 := 256#32
  let v1417 : BitVec 32 := Scalar.muli arg15 c256_i32_779
  let v1418 : BitVec 32 := v1417
  let c0_i32_785 : BitVec 32 := 0#32
  ![17, v1418.toNat, 0]
def k0_off4 (arg15 : BitVec 32) : Fin 3 → Nat :=
  let c33_i32 : BitVec 32 := 33#32
  let c256_i32_779 : BitVec 32 := 256#32
  let v1417 : BitVec 32 := Scalar.muli arg15 c256_i32_779
  let v1418 : BitVec 32 := v1417
  let c0_i32_791 : BitVec 32 := 0#32
  ![33, v1418.toNat, 0]
def k0_mult3 (arg15 : BitVec 32) : BitVec 32 :=
  let c256_i32_792 : BitVec 32 := 256#32
  let v1431 : BitVec 32 := Scalar.muli arg15 c256_i32_792
  v1431
def k0_off5 (arg15 : BitVec 32) : Fin 3 → Nat :=
  let c18_i32 : BitVec 32 := 18#32
  let c256_i32_792 : BitVec 32 := 256#32
  let v1431 : BitVec 32 := Scalar.muli arg15 c256_i32_792
  let v1432 : BitVec 32 := v1431
  let c0_i32_798 : BitVec 32 := 0#32
  ![18, v1432.toNat, 0]
def k0_off6 (arg15 : BitVec 32) : Fin 3 → Nat :=
  let c34_i32 : BitVec 32 := 34#32
  let c256_i32_792 : BitVec 32 := 256#32
  let v1431 : BitVec 32 := Scalar.muli arg15 c256_i32_792
  let v1432 : BitVec 32 := v1431
  let c0_i32_804 : BitVec 32 := 0#32
  ![34, v1432.toNat, 0]
def k0_mult4 (arg15 : BitVec 32) : BitVec 32 :=
  let c256_i32_805 : BitVec 32 := 256#32
  let v1445 : BitVec 32 := Scalar.muli arg15 c256_i32_805
  v1445
def k0_off7 (arg15 : BitVec 32) : Fin 3 → Nat :=
  let c19_i32 : BitVec 32 := 19#32
  let c256_i32_805 : BitVec 32 := 256#32
  let v1445 : BitVec 32 := Scalar.muli arg15 c256_i32_805
  let v1446 : BitVec 32 := v1445
  let c0_i32_810 : BitVec 32 := 0#32
  ![19, v1446.toNat, 0]
def k0_off8 (arg15 : BitVec 32) : Fin 3 → Nat :=
  let c35_i32 : BitVec 32 := 35#32
  let c256_i32_805 : BitVec 32 := 256#32
  let v1445 : BitVec 32 := Scalar.muli arg15 c256_i32_805
  let v1446 : BitVec 32 := v1445
  let c0_i32_816 : BitVec 32 := 0#32
  ![35, v1446.toNat, 0]
def k0_mult5 (arg15 : BitVec 32) : BitVec 32 :=
  let c256_i32_817 : BitVec 32 := 256#32
  let v1459 : BitVec 32 := Scalar.muli arg15 c256_i32_817
  v1459
def k0_off9 (arg15 : BitVec 32) : Fin 3 → Nat :=
  let c20_i32 : BitVec 32 := 20#32
  let c256_i32_817 : BitVec 32 := 256#32
  let v1459 : BitVec 32 := Scalar.muli arg15 c256_i32_817
  let v1460 : BitVec 32 := v1459
  let c0_i32_822 : BitVec 32 := 0#32
  ![20, v1460.toNat, 0]
def k0_off10 (arg15 : BitVec 32) : Fin 3 → Nat :=
  let c36_i32 : BitVec 32 := 36#32
  let c256_i32_817 : BitVec 32 := 256#32
  let v1459 : BitVec 32 := Scalar.muli arg15 c256_i32_817
  let v1460 : BitVec 32 := v1459
  let c0_i32_828 : BitVec 32 := 0#32
  ![36, v1460.toNat, 0]
def k0_mult6 (arg15 : BitVec 32) : BitVec 32 :=
  let c256_i32_829 : BitVec 32 := 256#32
  let v1473 : BitVec 32 := Scalar.muli arg15 c256_i32_829
  v1473
def k0_off11 (arg15 : BitVec 32) : Fin 3 → Nat :=
  let c21_i32 : BitVec 32 := 21#32
  let c256_i32_829 : BitVec 32 := 256#32
  let v1473 : BitVec 32 := Scalar.muli arg15 c256_i32_829
  let v1474 : BitVec 32 := v1473
  let c0_i32_834 : BitVec 32 := 0#32
  ![21, v1474.toNat, 0]
def k0_off12 (arg15 : BitVec 32) : Fin 3 → Nat :=
  let c37_i32 : BitVec 32 := 37#32
  let c256_i32_829 : BitVec 32 := 256#32
  let v1473 : BitVec 32 := Scalar.muli arg15 c256_i32_829
  let v1474 : BitVec 32 := v1473
  let c0_i32_840 : BitVec 32 := 0#32
  ![37, v1474.toNat, 0]
def k0_mult7 (arg15 : BitVec 32) : BitVec 32 :=
  let c256_i32_841 : BitVec 32 := 256#32
  let v1487 : BitVec 32 := Scalar.muli arg15 c256_i32_841
  v1487
def k0_off13 (arg15 : BitVec 32) : Fin 3 → Nat :=
  let c22_i32 : BitVec 32 := 22#32
  let c256_i32_841 : BitVec 32 := 256#32
  let v1487 : BitVec 32 := Scalar.muli arg15 c256_i32_841
  let v1488 : BitVec 32 := v1487
  let c0_i32_846 : BitVec 32 := 0#32
  ![22, v1488.toNat, 0]
def k0_off14 (arg15 : BitVec 32) : Fin 3 → Nat :=
  let c38_i32 : BitVec 32 := 38#32
  let c256_i32_841 : BitVec 32 := 256#32
  let v1487 : BitVec 32 := Scalar.muli arg15 c256_i32_841
  let v1488 : BitVec 32 := v1487
  let c0_i32_852 : BitVec 32 := 0#32
  ![38, v1488.toNat, 0]
def k0_mult8 (arg15 : BitVec 32) : BitVec 32 :=
  let c256_i32_853 : BitVec 32 := 256#32
  let v1501 : BitVec 32 := Scalar.muli arg15 c256_i32_853
  v1501
def k0_off15 (arg15 : BitVec 32) : Fin 3 → Nat :=
  let c23_i32 : BitVec 32 := 23#32
  let c256_i32_853 : BitVec 32 := 256#32
  let v1501 : BitVec 32 := Scalar.muli arg15 c256_i32_853
  let v1502 : BitVec 32 := v1501
  let c0_i32_858 : BitVec 32 := 0#32
  ![23, v1502.toNat, 0]
def k0_off16 (arg15 : BitVec 32) : Fin 3 → Nat :=
  let c39_i32 : BitVec 32 := 39#32
  let c256_i32_853 : BitVec 32 := 256#32
  let v1501 : BitVec 32 := Scalar.muli arg15 c256_i32_853
  let v1502 : BitVec 32 := v1501
  let c0_i32_864 : BitVec 32 := 0#32
  ![39, v1502.toNat, 0]
def k0_mult9 (arg15 : BitVec 32) : BitVec 32 :=
  let c256_i32_865 : BitVec 32 := 256#32
  let v1515 : BitVec 32 := Scalar.muli arg15 c256_i32_865
  v1515
def k0_off17 (arg15 : BitVec 32) : Fin 3 → Nat :=
  let c24_i32 : BitVec 32 := 24#32
  let c256_i32_865 : BitVec 32 := 256#32
  let v1515 : BitVec 32 := Scalar.muli arg15 c256_i32_865
  let v1516 : BitVec 32 := v1515
  let c0_i32_870 : BitVec 32 := 0#32
  ![24, v1516.toNat, 0]
def k0_off18 (arg15 : BitVec 32) : Fin 3 → Nat :=
  let c40_i32 : BitVec 32 := 40#32
  let c256_i32_865 : BitVec 32 := 256#32
  let v1515 : BitVec 32 := Scalar.muli arg15 c256_i32_865
  let v1516 : BitVec 32 := v1515
  let c0_i32_876 : BitVec 32 := 0#32
  ![40, v1516.toNat, 0]
def k0_mult10 (arg15 : BitVec 32) : BitVec 32 :=
  let c256_i32_877 : BitVec 32 := 256#32
  let v1529 : BitVec 32 := Scalar.muli arg15 c256_i32_877
  v1529
def k0_off19 (arg15 : BitVec 32) : Fin 3 → Nat :=
  let c25_i32 : BitVec 32 := 25#32
  let c256_i32_877 : BitVec 32 := 256#32
  let v1529 : BitVec 32 := Scalar.muli arg15 c256_i32_877
  let v1530 : BitVec 32 := v1529
  let c0_i32_882 : BitVec 32 := 0#32
  ![25, v1530.toNat, 0]
def k0_off20 (arg15 : BitVec 32) : Fin 3 → Nat :=
  let c41_i32 : BitVec 32 := 41#32
  let c256_i32_877 : BitVec 32 := 256#32
  let v1529 : BitVec 32 := Scalar.muli arg15 c256_i32_877
  let v1530 : BitVec 32 := v1529
  let c0_i32_888 : BitVec 32 := 0#32
  ![41, v1530.toNat, 0]
def k0_mult11 (arg15 : BitVec 32) : BitVec 32 :=
  let c256_i32_889 : BitVec 32 := 256#32
  let v1543 : BitVec 32 := Scalar.muli arg15 c256_i32_889
  v1543
def k0_off21 (arg15 : BitVec 32) : Fin 3 → Nat :=
  let c26_i32 : BitVec 32 := 26#32
  let c256_i32_889 : BitVec 32 := 256#32
  let v1543 : BitVec 32 := Scalar.muli arg15 c256_i32_889
  let v1544 : BitVec 32 := v1543
  let c0_i32_894 : BitVec 32 := 0#32
  ![26, v1544.toNat, 0]
def k0_off22 (arg15 : BitVec 32) : Fin 3 → Nat :=
  let c42_i32 : BitVec 32 := 42#32
  let c256_i32_889 : BitVec 32 := 256#32
  let v1543 : BitVec 32 := Scalar.muli arg15 c256_i32_889
  let v1544 : BitVec 32 := v1543
  let c0_i32_900 : BitVec 32 := 0#32
  ![42, v1544.toNat, 0]
def k0_mult12 (arg15 : BitVec 32) : BitVec 32 :=
  let c256_i32_901 : BitVec 32 := 256#32
  let v1557 : BitVec 32 := Scalar.muli arg15 c256_i32_901
  v1557
def k0_off23 (arg15 : BitVec 32) : Fin 3 → Nat :=
  let c27_i32 : BitVec 32 := 27#32
  let c256_i32_901 : BitVec 32 := 256#32
  let v1557 : BitVec 32 := Scalar.muli arg15 c256_i32_901
  let v1558 : BitVec 32 := v1557
  let c0_i32_906 : BitVec 32 := 0#32
  ![27, v1558.toNat, 0]
def k0_off24 (arg15 : BitVec 32) : Fin 3 → Nat :=
  let c43_i32 : BitVec 32 := 43#32
  let c256_i32_901 : BitVec 32 := 256#32
  let v1557 : BitVec 32 := Scalar.muli arg15 c256_i32_901
  let v1558 : BitVec 32 := v1557
  let c0_i32_912 : BitVec 32 := 0#32
  ![43, v1558.toNat, 0]
def k0_mult13 (arg15 : BitVec 32) : BitVec 32 :=
  let c256_i32_913 : BitVec 32 := 256#32
  let v1571 : BitVec 32 := Scalar.muli arg15 c256_i32_913
  v1571
def k0_off25 (arg15 : BitVec 32) : Fin 3 → Nat :=
  let c28_i32 : BitVec 32 := 28#32
  let c256_i32_913 : BitVec 32 := 256#32
  let v1571 : BitVec 32 := Scalar.muli arg15 c256_i32_913
  let v1572 : BitVec 32 := v1571
  let c0_i32_918 : BitVec 32 := 0#32
  ![28, v1572.toNat, 0]
def k0_off26 (arg15 : BitVec 32) : Fin 3 → Nat :=
  let c44_i32 : BitVec 32 := 44#32
  let c256_i32_913 : BitVec 32 := 256#32
  let v1571 : BitVec 32 := Scalar.muli arg15 c256_i32_913
  let v1572 : BitVec 32 := v1571
  let c0_i32_924 : BitVec 32 := 0#32
  ![44, v1572.toNat, 0]
def k0_mult14 (arg15 : BitVec 32) : BitVec 32 :=
  let c256_i32_925 : BitVec 32 := 256#32
  let v1585 : BitVec 32 := Scalar.muli arg15 c256_i32_925
  v1585
def k0_off27 (arg15 : BitVec 32) : Fin 3 → Nat :=
  let c29_i32 : BitVec 32 := 29#32
  let c256_i32_925 : BitVec 32 := 256#32
  let v1585 : BitVec 32 := Scalar.muli arg15 c256_i32_925
  let v1586 : BitVec 32 := v1585
  let c0_i32_930 : BitVec 32 := 0#32
  ![29, v1586.toNat, 0]
def k0_off28 (arg15 : BitVec 32) : Fin 3 → Nat :=
  let c45_i32 : BitVec 32 := 45#32
  let c256_i32_925 : BitVec 32 := 256#32
  let v1585 : BitVec 32 := Scalar.muli arg15 c256_i32_925
  let v1586 : BitVec 32 := v1585
  let c0_i32_936 : BitVec 32 := 0#32
  ![45, v1586.toNat, 0]
def k0_mult15 (arg15 : BitVec 32) : BitVec 32 :=
  let c256_i32_937 : BitVec 32 := 256#32
  let v1599 : BitVec 32 := Scalar.muli arg15 c256_i32_937
  v1599
def k0_off29 (arg15 : BitVec 32) : Fin 3 → Nat :=
  let c30_i32 : BitVec 32 := 30#32
  let c256_i32_937 : BitVec 32 := 256#32
  let v1599 : BitVec 32 := Scalar.muli arg15 c256_i32_937
  let v1600 : BitVec 32 := v1599
  let c0_i32_942 : BitVec 32 := 0#32
  ![30, v1600.toNat, 0]
def k0_off30 (arg15 : BitVec 32) : Fin 3 → Nat :=
  let c46_i32 : BitVec 32 := 46#32
  let c256_i32_937 : BitVec 32 := 256#32
  let v1599 : BitVec 32 := Scalar.muli arg15 c256_i32_937
  let v1600 : BitVec 32 := v1599
  let c0_i32_948 : BitVec 32 := 0#32
  ![46, v1600.toNat, 0]
def k0_mult16 (arg15 : BitVec 32) : BitVec 32 :=
  let c256_i32_949 : BitVec 32 := 256#32
  let v1613 : BitVec 32 := Scalar.muli arg15 c256_i32_949
  v1613
def k0_off31 (arg15 : BitVec 32) : Fin 3 → Nat :=
  let c31_i32 : BitVec 32 := 31#32
  let c256_i32_949 : BitVec 32 := 256#32
  let v1613 : BitVec 32 := Scalar.muli arg15 c256_i32_949
  let v1614 : BitVec 32 := v1613
  let c0_i32_954 : BitVec 32 := 0#32
  ![31, v1614.toNat, 0]
def k0_off32 (arg15 : BitVec 32) : Fin 3 → Nat :=
  let c47_i32 : BitVec 32 := 47#32
  let c256_i32_949 : BitVec 32 := 256#32
  let v1613 : BitVec 32 := Scalar.muli arg15 c256_i32_949
  let v1614 : BitVec 32 := v1613
  let c0_i32_960 : BitVec 32 := 0#32
  ![47, v1614.toNat, 0]
def k0_mult17 (arg15 : BitVec 32) : BitVec 32 :=
  let c256_i32_961 : BitVec 32 := 256#32
  let v1627 : BitVec 32 := Scalar.muli arg15 c256_i32_961
  v1627
def k0_mult18 (arg15 : BitVec 32) : BitVec 32 :=
  let c256_i32_1009 : BitVec 32 := 256#32
  let v1687 : BitVec 32 := Scalar.muli arg15 c256_i32_1009
  v1687
def k0_mult19 (arg15 : BitVec 32) : BitVec 32 :=
  let c256_i32_1057 : BitVec 32 := 256#32
  let v1747 : BitVec 32 := Scalar.muli arg15 c256_i32_1057
  v1747
def k0_mult20 (arg15 : BitVec 32) : BitVec 32 :=
  let c256_i32_1105 : BitVec 32 := 256#32
  let v1807 : BitVec 32 := Scalar.muli arg15 c256_i32_1105
  v1807
def k0_mult21 (arg15 : BitVec 32) : BitVec 32 :=
  let c256_i32_1153 : BitVec 32 := 256#32
  let v1867 : BitVec 32 := Scalar.muli arg15 c256_i32_1153
  v1867
def k0_mult22 (arg15 : BitVec 32) : BitVec 32 :=
  let c256_i32_1201 : BitVec 32 := 256#32
  let v1927 : BitVec 32 := Scalar.muli arg15 c256_i32_1201
  v1927
def k0_mult23 (arg15 : BitVec 32) : BitVec 32 :=
  let c256_i32_1249 : BitVec 32 := 256#32
  let v1987 : BitVec 32 := Scalar.muli arg15 c256_i32_1249
  v1987
def k0_mult24 (arg15 : BitVec 32) : BitVec 32 :=
  let c256_i32_1297 : BitVec 32 := 256#32
  let v2047 : BitVec 32 := Scalar.muli arg15 c256_i32_1297
  v2047
def k0_mult25 (arg15 : BitVec 32) : BitVec 32 :=
  let c256_i32_1345 : BitVec 32 := 256#32
  let v2107 : BitVec 32 := Scalar.muli arg15 c256_i32_1345
  v2107
def k0_mult26 (arg15 : BitVec 32) : BitVec 32 :=
  let c256_i32_1393 : BitVec 32 := 256#32
  let v2167 : BitVec 32 := Scalar.muli arg15 c256_i32_1393
  v2167
def k0_mult27 (arg15 : BitVec 32) : BitVec 32 :=
  let c256_i32_1441 : BitVec 32 := 256#32
  let v2227 : BitVec 32 := Scalar.muli arg15 c256_i32_1441
  v2227
def k0_mult28 (arg15 : BitVec 32) : BitVec 32 :=
  let c256_i32_1489 : BitVec 32 := 256#32
  let v2287 : BitVec 32 := Scalar.muli arg15 c256_i32_1489
  v2287
def k0_mult29 (arg15 : BitVec 32) : BitVec 32 :=
  let c256_i32_1537 : BitVec 32 := 256#32
  let v2347 : BitVec 32 := Scalar.muli arg15 c256_i32_1537
  v2347
def k0_mult30 (arg15 : BitVec 32) : BitVec 32 :=
  let c256_i32_1585 : BitVec 32 := 256#32
  let v2407 : BitVec 32 := Scalar.muli arg15 c256_i32_1585
  v2407
def k0_mult31 (arg15 : BitVec 32) : BitVec 32 :=
  let c256_i32_1633 : BitVec 32 := 256#32
  let v2467 : BitVec 32 := Scalar.muli arg15 c256_i32_1633
  v2467
def k0_mult32 (arg15 : BitVec 32) : BitVec 32 :=
  let c256_i32_1681 : BitVec 32 := 256#32
  let v2527 : BitVec 32 := Scalar.muli arg15 c256_i32_1681
  v2527

def k0_chk1_0 (arg15 : BitVec 32) : Prop :=
  (256 ∣ (k0_mult1 arg15).toNat) ∧
  (∀ a, (k0_off1 arg15) a + S1x256x128.size a ≤ S64x16384x128.size a) ∧
  (∀ (hinb : ∀ a, (k0_off1 arg15) a + S1x256x128.size a ≤ S64x16384x128.size a), (Rect.unit (s := S64x16384x128) (k0_off1 arg15) S1x256x128.size hinb).WholeWords (EltTy.packing .bf16)) ∧
  (∀ a, (k0_off2 arg15) a + S1x256x128.size a ≤ S64x16384x128.size a) ∧
  (∀ (hinb : ∀ a, (k0_off2 arg15) a + S1x256x128.size a ≤ S64x16384x128.size a), (Rect.unit (s := S64x16384x128) (k0_off2 arg15) S1x256x128.size hinb).WholeWords (EltTy.packing .bf16)) ∧
  (256 ∣ (k0_mult2 arg15).toNat) ∧
  (∀ a, (k0_off3 arg15) a + S1x256x128.size a ≤ S64x16384x128.size a) ∧
  (∀ (hinb : ∀ a, (k0_off3 arg15) a + S1x256x128.size a ≤ S64x16384x128.size a), (Rect.unit (s := S64x16384x128) (k0_off3 arg15) S1x256x128.size hinb).WholeWords (EltTy.packing .bf16)) ∧
  (∀ a, (k0_off4 arg15) a + S1x256x128.size a ≤ S64x16384x128.size a) ∧
  (∀ (hinb : ∀ a, (k0_off4 arg15) a + S1x256x128.size a ≤ S64x16384x128.size a), (Rect.unit (s := S64x16384x128) (k0_off4 arg15) S1x256x128.size hinb).WholeWords (EltTy.packing .bf16)) ∧
  (256 ∣ (k0_mult3 arg15).toNat) ∧
  (∀ a, (k0_off5 arg15) a + S1x256x128.size a ≤ S64x16384x128.size a) ∧
  (∀ (hinb : ∀ a, (k0_off5 arg15) a + S1x256x128.size a ≤ S64x16384x128.size a), (Rect.unit (s := S64x16384x128) (k0_off5 arg15) S1x256x128.size hinb).WholeWords (EltTy.packing .bf16)) ∧
  (∀ a, (k0_off6 arg15) a + S1x256x128.size a ≤ S64x16384x128.size a) ∧
  (∀ (hinb : ∀ a, (k0_off6 arg15) a + S1x256x128.size a ≤ S64x16384x128.size a), (Rect.unit (s := S64x16384x128) (k0_off6 arg15) S1x256x128.size hinb).WholeWords (EltTy.packing .bf16)) ∧
  (256 ∣ (k0_mult4 arg15).toNat) ∧
  (∀ a, (k0_off7 arg15) a + S1x256x128.size a ≤ S64x16384x128.size a) ∧
  (∀ (hinb : ∀ a, (k0_off7 arg15) a + S1x256x128.size a ≤ S64x16384x128.size a), (Rect.unit (s := S64x16384x128) (k0_off7 arg15) S1x256x128.size hinb).WholeWords (EltTy.packing .bf16)) ∧
  (∀ a, (k0_off8 arg15) a + S1x256x128.size a ≤ S64x16384x128.size a) ∧
  (∀ (hinb : ∀ a, (k0_off8 arg15) a + S1x256x128.size a ≤ S64x16384x128.size a), (Rect.unit (s := S64x16384x128) (k0_off8 arg15) S1x256x128.size hinb).WholeWords (EltTy.packing .bf16)) ∧
  (256 ∣ (k0_mult5 arg15).toNat) ∧
  (∀ a, (k0_off9 arg15) a + S1x256x128.size a ≤ S64x16384x128.size a) ∧
  (∀ (hinb : ∀ a, (k0_off9 arg15) a + S1x256x128.size a ≤ S64x16384x128.size a), (Rect.unit (s := S64x16384x128) (k0_off9 arg15) S1x256x128.size hinb).WholeWords (EltTy.packing .bf16)) ∧
  (∀ a, (k0_off10 arg15) a + S1x256x128.size a ≤ S64x16384x128.size a) ∧
  (∀ (hinb : ∀ a, (k0_off10 arg15) a + S1x256x128.size a ≤ S64x16384x128.size a), (Rect.unit (s := S64x16384x128) (k0_off10 arg15) S1x256x128.size hinb).WholeWords (EltTy.packing .bf16)) ∧
  (256 ∣ (k0_mult6 arg15).toNat) ∧
  (∀ a, (k0_off11 arg15) a + S1x256x128.size a ≤ S64x16384x128.size a) ∧
  (∀ (hinb : ∀ a, (k0_off11 arg15) a + S1x256x128.size a ≤ S64x16384x128.size a), (Rect.unit (s := S64x16384x128) (k0_off11 arg15) S1x256x128.size hinb).WholeWords (EltTy.packing .bf16)) ∧
  (∀ a, (k0_off12 arg15) a + S1x256x128.size a ≤ S64x16384x128.size a) ∧
  (∀ (hinb : ∀ a, (k0_off12 arg15) a + S1x256x128.size a ≤ S64x16384x128.size a), (Rect.unit (s := S64x16384x128) (k0_off12 arg15) S1x256x128.size hinb).WholeWords (EltTy.packing .bf16)) ∧
  (256 ∣ (k0_mult7 arg15).toNat) ∧
  (∀ a, (k0_off13 arg15) a + S1x256x128.size a ≤ S64x16384x128.size a)
def k0_chk1_1 (arg15 : BitVec 32) : Prop :=
  (∀ (hinb : ∀ a, (k0_off13 arg15) a + S1x256x128.size a ≤ S64x16384x128.size a), (Rect.unit (s := S64x16384x128) (k0_off13 arg15) S1x256x128.size hinb).WholeWords (EltTy.packing .bf16)) ∧
  (∀ a, (k0_off14 arg15) a + S1x256x128.size a ≤ S64x16384x128.size a) ∧
  (∀ (hinb : ∀ a, (k0_off14 arg15) a + S1x256x128.size a ≤ S64x16384x128.size a), (Rect.unit (s := S64x16384x128) (k0_off14 arg15) S1x256x128.size hinb).WholeWords (EltTy.packing .bf16)) ∧
  (256 ∣ (k0_mult8 arg15).toNat) ∧
  (∀ a, (k0_off15 arg15) a + S1x256x128.size a ≤ S64x16384x128.size a) ∧
  (∀ (hinb : ∀ a, (k0_off15 arg15) a + S1x256x128.size a ≤ S64x16384x128.size a), (Rect.unit (s := S64x16384x128) (k0_off15 arg15) S1x256x128.size hinb).WholeWords (EltTy.packing .bf16)) ∧
  (∀ a, (k0_off16 arg15) a + S1x256x128.size a ≤ S64x16384x128.size a) ∧
  (∀ (hinb : ∀ a, (k0_off16 arg15) a + S1x256x128.size a ≤ S64x16384x128.size a), (Rect.unit (s := S64x16384x128) (k0_off16 arg15) S1x256x128.size hinb).WholeWords (EltTy.packing .bf16)) ∧
  (256 ∣ (k0_mult9 arg15).toNat) ∧
  (∀ a, (k0_off17 arg15) a + S1x256x128.size a ≤ S64x16384x128.size a) ∧
  (∀ (hinb : ∀ a, (k0_off17 arg15) a + S1x256x128.size a ≤ S64x16384x128.size a), (Rect.unit (s := S64x16384x128) (k0_off17 arg15) S1x256x128.size hinb).WholeWords (EltTy.packing .bf16)) ∧
  (∀ a, (k0_off18 arg15) a + S1x256x128.size a ≤ S64x16384x128.size a) ∧
  (∀ (hinb : ∀ a, (k0_off18 arg15) a + S1x256x128.size a ≤ S64x16384x128.size a), (Rect.unit (s := S64x16384x128) (k0_off18 arg15) S1x256x128.size hinb).WholeWords (EltTy.packing .bf16)) ∧
  (256 ∣ (k0_mult10 arg15).toNat) ∧
  (∀ a, (k0_off19 arg15) a + S1x256x128.size a ≤ S64x16384x128.size a) ∧
  (∀ (hinb : ∀ a, (k0_off19 arg15) a + S1x256x128.size a ≤ S64x16384x128.size a), (Rect.unit (s := S64x16384x128) (k0_off19 arg15) S1x256x128.size hinb).WholeWords (EltTy.packing .bf16)) ∧
  (∀ a, (k0_off20 arg15) a + S1x256x128.size a ≤ S64x16384x128.size a) ∧
  (∀ (hinb : ∀ a, (k0_off20 arg15) a + S1x256x128.size a ≤ S64x16384x128.size a), (Rect.unit (s := S64x16384x128) (k0_off20 arg15) S1x256x128.size hinb).WholeWords (EltTy.packing .bf16)) ∧
  (256 ∣ (k0_mult11 arg15).toNat) ∧
  (∀ a, (k0_off21 arg15) a + S1x256x128.size a ≤ S64x16384x128.size a) ∧
  (∀ (hinb : ∀ a, (k0_off21 arg15) a + S1x256x128.size a ≤ S64x16384x128.size a), (Rect.unit (s := S64x16384x128) (k0_off21 arg15) S1x256x128.size hinb).WholeWords (EltTy.packing .bf16)) ∧
  (∀ a, (k0_off22 arg15) a + S1x256x128.size a ≤ S64x16384x128.size a) ∧
  (∀ (hinb : ∀ a, (k0_off22 arg15) a + S1x256x128.size a ≤ S64x16384x128.size a), (Rect.unit (s := S64x16384x128) (k0_off22 arg15) S1x256x128.size hinb).WholeWords (EltTy.packing .bf16)) ∧
  (256 ∣ (k0_mult12 arg15).toNat) ∧
  (∀ a, (k0_off23 arg15) a + S1x256x128.size a ≤ S64x16384x128.size a) ∧
  (∀ (hinb : ∀ a, (k0_off23 arg15) a + S1x256x128.size a ≤ S64x16384x128.size a), (Rect.unit (s := S64x16384x128) (k0_off23 arg15) S1x256x128.size hinb).WholeWords (EltTy.packing .bf16)) ∧
  (∀ a, (k0_off24 arg15) a + S1x256x128.size a ≤ S64x16384x128.size a) ∧
  (∀ (hinb : ∀ a, (k0_off24 arg15) a + S1x256x128.size a ≤ S64x16384x128.size a), (Rect.unit (s := S64x16384x128) (k0_off24 arg15) S1x256x128.size hinb).WholeWords (EltTy.packing .bf16)) ∧
  (256 ∣ (k0_mult13 arg15).toNat) ∧
  (∀ a, (k0_off25 arg15) a + S1x256x128.size a ≤ S64x16384x128.size a) ∧
  (∀ (hinb : ∀ a, (k0_off25 arg15) a + S1x256x128.size a ≤ S64x16384x128.size a), (Rect.unit (s := S64x16384x128) (k0_off25 arg15) S1x256x128.size hinb).WholeWords (EltTy.packing .bf16)) ∧
  (∀ a, (k0_off26 arg15) a + S1x256x128.size a ≤ S64x16384x128.size a)
def k0_chk1_2 (arg15 : BitVec 32) : Prop :=
  (∀ (hinb : ∀ a, (k0_off26 arg15) a + S1x256x128.size a ≤ S64x16384x128.size a), (Rect.unit (s := S64x16384x128) (k0_off26 arg15) S1x256x128.size hinb).WholeWords (EltTy.packing .bf16)) ∧
  (256 ∣ (k0_mult14 arg15).toNat) ∧
  (∀ a, (k0_off27 arg15) a + S1x256x128.size a ≤ S64x16384x128.size a) ∧
  (∀ (hinb : ∀ a, (k0_off27 arg15) a + S1x256x128.size a ≤ S64x16384x128.size a), (Rect.unit (s := S64x16384x128) (k0_off27 arg15) S1x256x128.size hinb).WholeWords (EltTy.packing .bf16)) ∧
  (∀ a, (k0_off28 arg15) a + S1x256x128.size a ≤ S64x16384x128.size a) ∧
  (∀ (hinb : ∀ a, (k0_off28 arg15) a + S1x256x128.size a ≤ S64x16384x128.size a), (Rect.unit (s := S64x16384x128) (k0_off28 arg15) S1x256x128.size hinb).WholeWords (EltTy.packing .bf16)) ∧
  (256 ∣ (k0_mult15 arg15).toNat) ∧
  (∀ a, (k0_off29 arg15) a + S1x256x128.size a ≤ S64x16384x128.size a) ∧
  (∀ (hinb : ∀ a, (k0_off29 arg15) a + S1x256x128.size a ≤ S64x16384x128.size a), (Rect.unit (s := S64x16384x128) (k0_off29 arg15) S1x256x128.size hinb).WholeWords (EltTy.packing .bf16)) ∧
  (∀ a, (k0_off30 arg15) a + S1x256x128.size a ≤ S64x16384x128.size a) ∧
  (∀ (hinb : ∀ a, (k0_off30 arg15) a + S1x256x128.size a ≤ S64x16384x128.size a), (Rect.unit (s := S64x16384x128) (k0_off30 arg15) S1x256x128.size hinb).WholeWords (EltTy.packing .bf16)) ∧
  (256 ∣ (k0_mult16 arg15).toNat) ∧
  (∀ a, (k0_off31 arg15) a + S1x256x128.size a ≤ S64x16384x128.size a) ∧
  (∀ (hinb : ∀ a, (k0_off31 arg15) a + S1x256x128.size a ≤ S64x16384x128.size a), (Rect.unit (s := S64x16384x128) (k0_off31 arg15) S1x256x128.size hinb).WholeWords (EltTy.packing .bf16)) ∧
  (∀ a, (k0_off32 arg15) a + S1x256x128.size a ≤ S64x16384x128.size a) ∧
  (∀ (hinb : ∀ a, (k0_off32 arg15) a + S1x256x128.size a ≤ S64x16384x128.size a), (Rect.unit (s := S64x16384x128) (k0_off32 arg15) S1x256x128.size hinb).WholeWords (EltTy.packing .bf16)) ∧
  (256 ∣ (k0_mult17 arg15).toNat) ∧
  (256 ∣ (k0_mult18 arg15).toNat) ∧
  (256 ∣ (k0_mult19 arg15).toNat) ∧
  (256 ∣ (k0_mult20 arg15).toNat) ∧
  (256 ∣ (k0_mult21 arg15).toNat) ∧
  (256 ∣ (k0_mult22 arg15).toNat) ∧
  (256 ∣ (k0_mult23 arg15).toNat) ∧
  (256 ∣ (k0_mult24 arg15).toNat) ∧
  (256 ∣ (k0_mult25 arg15).toNat) ∧
  (256 ∣ (k0_mult26 arg15).toNat) ∧
  (256 ∣ (k0_mult27 arg15).toNat) ∧
  (256 ∣ (k0_mult28 arg15).toNat) ∧
  (256 ∣ (k0_mult29 arg15).toNat) ∧
  (256 ∣ (k0_mult30 arg15).toNat) ∧
  (256 ∣ (k0_mult31 arg15).toNat) ∧
  (256 ∣ (k0_mult32 arg15).toNat)
def k0_chk1 (arg15 : BitVec 32) : Prop :=
  k0_chk1_0 arg15 ∧
  k0_chk1_1 arg15 ∧
  k0_chk1_2 arg15
theorem k0_mult1_dvd : ∀ (arg15 : BitVec 32) (k0_hw1 : k0_chk1 arg15), 256 ∣ (k0_mult1 arg15).toNat := fun arg15 k0_hw1 => k0_hw1.1.1
theorem k0_off1_inb : ∀ (arg15 : BitVec 32) (k0_hw1 : k0_chk1 arg15), ∀ a, (k0_off1 arg15) a + S1x256x128.size a ≤ S64x16384x128.size a := fun arg15 k0_hw1 => k0_hw1.1.2.1
theorem k0_off1_wordsbf16 : ∀ (arg15 : BitVec 32) (k0_hw1 : k0_chk1 arg15), (Rect.unit (s := S64x16384x128) (k0_off1 arg15) S1x256x128.size (k0_off1_inb arg15 k0_hw1)).WholeWords (EltTy.packing .bf16) := fun arg15 k0_hw1 => k0_hw1.1.2.2.1 (k0_off1_inb arg15 k0_hw1)
theorem k0_off2_inb : ∀ (arg15 : BitVec 32) (k0_hw1 : k0_chk1 arg15), ∀ a, (k0_off2 arg15) a + S1x256x128.size a ≤ S64x16384x128.size a := fun arg15 k0_hw1 => k0_hw1.1.2.2.2.1
theorem k0_off2_wordsbf16 : ∀ (arg15 : BitVec 32) (k0_hw1 : k0_chk1 arg15), (Rect.unit (s := S64x16384x128) (k0_off2 arg15) S1x256x128.size (k0_off2_inb arg15 k0_hw1)).WholeWords (EltTy.packing .bf16) := fun arg15 k0_hw1 => k0_hw1.1.2.2.2.2.1 (k0_off2_inb arg15 k0_hw1)
theorem k0_mult2_dvd : ∀ (arg15 : BitVec 32) (k0_hw1 : k0_chk1 arg15), 256 ∣ (k0_mult2 arg15).toNat := fun arg15 k0_hw1 => k0_hw1.1.2.2.2.2.2.1
theorem k0_off3_inb : ∀ (arg15 : BitVec 32) (k0_hw1 : k0_chk1 arg15), ∀ a, (k0_off3 arg15) a + S1x256x128.size a ≤ S64x16384x128.size a := fun arg15 k0_hw1 => k0_hw1.1.2.2.2.2.2.2.1
theorem k0_off3_wordsbf16 : ∀ (arg15 : BitVec 32) (k0_hw1 : k0_chk1 arg15), (Rect.unit (s := S64x16384x128) (k0_off3 arg15) S1x256x128.size (k0_off3_inb arg15 k0_hw1)).WholeWords (EltTy.packing .bf16) := fun arg15 k0_hw1 => k0_hw1.1.2.2.2.2.2.2.2.1 (k0_off3_inb arg15 k0_hw1)
theorem k0_off4_inb : ∀ (arg15 : BitVec 32) (k0_hw1 : k0_chk1 arg15), ∀ a, (k0_off4 arg15) a + S1x256x128.size a ≤ S64x16384x128.size a := fun arg15 k0_hw1 => k0_hw1.1.2.2.2.2.2.2.2.2.1
theorem k0_off4_wordsbf16 : ∀ (arg15 : BitVec 32) (k0_hw1 : k0_chk1 arg15), (Rect.unit (s := S64x16384x128) (k0_off4 arg15) S1x256x128.size (k0_off4_inb arg15 k0_hw1)).WholeWords (EltTy.packing .bf16) := fun arg15 k0_hw1 => k0_hw1.1.2.2.2.2.2.2.2.2.2.1 (k0_off4_inb arg15 k0_hw1)
theorem k0_mult3_dvd : ∀ (arg15 : BitVec 32) (k0_hw1 : k0_chk1 arg15), 256 ∣ (k0_mult3 arg15).toNat := fun arg15 k0_hw1 => k0_hw1.1.2.2.2.2.2.2.2.2.2.2.1
theorem k0_off5_inb : ∀ (arg15 : BitVec 32) (k0_hw1 : k0_chk1 arg15), ∀ a, (k0_off5 arg15) a + S1x256x128.size a ≤ S64x16384x128.size a := fun arg15 k0_hw1 => k0_hw1.1.2.2.2.2.2.2.2.2.2.2.2.1
theorem k0_off5_wordsbf16 : ∀ (arg15 : BitVec 32) (k0_hw1 : k0_chk1 arg15), (Rect.unit (s := S64x16384x128) (k0_off5 arg15) S1x256x128.size (k0_off5_inb arg15 k0_hw1)).WholeWords (EltTy.packing .bf16) := fun arg15 k0_hw1 => k0_hw1.1.2.2.2.2.2.2.2.2.2.2.2.2.1 (k0_off5_inb arg15 k0_hw1)
theorem k0_off6_inb : ∀ (arg15 : BitVec 32) (k0_hw1 : k0_chk1 arg15), ∀ a, (k0_off6 arg15) a + S1x256x128.size a ≤ S64x16384x128.size a := fun arg15 k0_hw1 => k0_hw1.1.2.2.2.2.2.2.2.2.2.2.2.2.2.1
theorem k0_off6_wordsbf16 : ∀ (arg15 : BitVec 32) (k0_hw1 : k0_chk1 arg15), (Rect.unit (s := S64x16384x128) (k0_off6 arg15) S1x256x128.size (k0_off6_inb arg15 k0_hw1)).WholeWords (EltTy.packing .bf16) := fun arg15 k0_hw1 => k0_hw1.1.2.2.2.2.2.2.2.2.2.2.2.2.2.2.1 (k0_off6_inb arg15 k0_hw1)
theorem k0_mult4_dvd : ∀ (arg15 : BitVec 32) (k0_hw1 : k0_chk1 arg15), 256 ∣ (k0_mult4 arg15).toNat := fun arg15 k0_hw1 => k0_hw1.1.2.2.2.2.2.2.2.2.2.2.2.2.2.2.2.1
theorem k0_off7_inb : ∀ (arg15 : BitVec 32) (k0_hw1 : k0_chk1 arg15), ∀ a, (k0_off7 arg15) a + S1x256x128.size a ≤ S64x16384x128.size a := fun arg15 k0_hw1 => k0_hw1.1.2.2.2.2.2.2.2.2.2.2.2.2.2.2.2.2.1
theorem k0_off7_wordsbf16 : ∀ (arg15 : BitVec 32) (k0_hw1 : k0_chk1 arg15), (Rect.unit (s := S64x16384x128) (k0_off7 arg15) S1x256x128.size (k0_off7_inb arg15 k0_hw1)).WholeWords (EltTy.packing .bf16) := fun arg15 k0_hw1 => k0_hw1.1.2.2.2.2.2.2.2.2.2.2.2.2.2.2.2.2.2.1 (k0_off7_inb arg15 k0_hw1)
theorem k0_off8_inb : ∀ (arg15 : BitVec 32) (k0_hw1 : k0_chk1 arg15), ∀ a, (k0_off8 arg15) a + S1x256x128.size a ≤ S64x16384x128.size a := fun arg15 k0_hw1 => k0_hw1.1.2.2.2.2.2.2.2.2.2.2.2.2.2.2.2.2.2.2.1
theorem k0_off8_wordsbf16 : ∀ (arg15 : BitVec 32) (k0_hw1 : k0_chk1 arg15), (Rect.unit (s := S64x16384x128) (k0_off8 arg15) S1x256x128.size (k0_off8_inb arg15 k0_hw1)).WholeWords (EltTy.packing .bf16) := fun arg15 k0_hw1 => k0_hw1.1.2.2.2.2.2.2.2.2.2.2.2.2.2.2.2.2.2.2.2.1 (k0_off8_inb arg15 k0_hw1)
theorem k0_mult5_dvd : ∀ (arg15 : BitVec 32) (k0_hw1 : k0_chk1 arg15), 256 ∣ (k0_mult5 arg15).toNat := fun arg15 k0_hw1 => k0_hw1.1.2.2.2.2.2.2.2.2.2.2.2.2.2.2.2.2.2.2.2.2.1
theorem k0_off9_inb : ∀ (arg15 : BitVec 32) (k0_hw1 : k0_chk1 arg15), ∀ a, (k0_off9 arg15) a + S1x256x128.size a ≤ S64x16384x128.size a := fun arg15 k0_hw1 => k0_hw1.1.2.2.2.2.2.2.2.2.2.2.2.2.2.2.2.2.2.2.2.2.2.1
theorem k0_off9_wordsbf16 : ∀ (arg15 : BitVec 32) (k0_hw1 : k0_chk1 arg15), (Rect.unit (s := S64x16384x128) (k0_off9 arg15) S1x256x128.size (k0_off9_inb arg15 k0_hw1)).WholeWords (EltTy.packing .bf16) := fun arg15 k0_hw1 => k0_hw1.1.2.2.2.2.2.2.2.2.2.2.2.2.2.2.2.2.2.2.2.2.2.2.1 (k0_off9_inb arg15 k0_hw1)
theorem k0_off10_inb : ∀ (arg15 : BitVec 32) (k0_hw1 : k0_chk1 arg15), ∀ a, (k0_off10 arg15) a + S1x256x128.size a ≤ S64x16384x128.size a := fun arg15 k0_hw1 => k0_hw1.1.2.2.2.2.2.2.2.2.2.2.2.2.2.2.2.2.2.2.2.2.2.2.2.1
theorem k0_off10_wordsbf16 : ∀ (arg15 : BitVec 32) (k0_hw1 : k0_chk1 arg15), (Rect.unit (s := S64x16384x128) (k0_off10 arg15) S1x256x128.size (k0_off10_inb arg15 k0_hw1)).WholeWords (EltTy.packing .bf16) := fun arg15 k0_hw1 => k0_hw1.1.2.2.2.2.2.2.2.2.2.2.2.2.2.2.2.2.2.2.2.2.2.2.2.2.1 (k0_off10_inb arg15 k0_hw1)
theorem k0_mult6_dvd : ∀ (arg15 : BitVec 32) (k0_hw1 : k0_chk1 arg15), 256 ∣ (k0_mult6 arg15).toNat := fun arg15 k0_hw1 => k0_hw1.1.2.2.2.2.2.2.2.2.2.2.2.2.2.2.2.2.2.2.2.2.2.2.2.2.2.1
theorem k0_off11_inb : ∀ (arg15 : BitVec 32) (k0_hw1 : k0_chk1 arg15), ∀ a, (k0_off11 arg15) a + S1x256x128.size a ≤ S64x16384x128.size a := fun arg15 k0_hw1 => k0_hw1.1.2.2.2.2.2.2.2.2.2.2.2.2.2.2.2.2.2.2.2.2.2.2.2.2.2.2.1
theorem k0_off11_wordsbf16 : ∀ (arg15 : BitVec 32) (k0_hw1 : k0_chk1 arg15), (Rect.unit (s := S64x16384x128) (k0_off11 arg15) S1x256x128.size (k0_off11_inb arg15 k0_hw1)).WholeWords (EltTy.packing .bf16) := fun arg15 k0_hw1 => k0_hw1.1.2.2.2.2.2.2.2.2.2.2.2.2.2.2.2.2.2.2.2.2.2.2.2.2.2.2.2.1 (k0_off11_inb arg15 k0_hw1)
theorem k0_off12_inb : ∀ (arg15 : BitVec 32) (k0_hw1 : k0_chk1 arg15), ∀ a, (k0_off12 arg15) a + S1x256x128.size a ≤ S64x16384x128.size a := fun arg15 k0_hw1 => k0_hw1.1.2.2.2.2.2.2.2.2.2.2.2.2.2.2.2.2.2.2.2.2.2.2.2.2.2.2.2.2.1
theorem k0_off12_wordsbf16 : ∀ (arg15 : BitVec 32) (k0_hw1 : k0_chk1 arg15), (Rect.unit (s := S64x16384x128) (k0_off12 arg15) S1x256x128.size (k0_off12_inb arg15 k0_hw1)).WholeWords (EltTy.packing .bf16) := fun arg15 k0_hw1 => k0_hw1.1.2.2.2.2.2.2.2.2.2.2.2.2.2.2.2.2.2.2.2.2.2.2.2.2.2.2.2.2.2.1 (k0_off12_inb arg15 k0_hw1)
theorem k0_mult7_dvd : ∀ (arg15 : BitVec 32) (k0_hw1 : k0_chk1 arg15), 256 ∣ (k0_mult7 arg15).toNat := fun arg15 k0_hw1 => k0_hw1.1.2.2.2.2.2.2.2.2.2.2.2.2.2.2.2.2.2.2.2.2.2.2.2.2.2.2.2.2.2.2.1
theorem k0_off13_inb : ∀ (arg15 : BitVec 32) (k0_hw1 : k0_chk1 arg15), ∀ a, (k0_off13 arg15) a + S1x256x128.size a ≤ S64x16384x128.size a := fun arg15 k0_hw1 => k0_hw1.1.2.2.2.2.2.2.2.2.2.2.2.2.2.2.2.2.2.2.2.2.2.2.2.2.2.2.2.2.2.2.2
theorem k0_off13_wordsbf16 : ∀ (arg15 : BitVec 32) (k0_hw1 : k0_chk1 arg15), (Rect.unit (s := S64x16384x128) (k0_off13 arg15) S1x256x128.size (k0_off13_inb arg15 k0_hw1)).WholeWords (EltTy.packing .bf16) := fun arg15 k0_hw1 => k0_hw1.2.1.1 (k0_off13_inb arg15 k0_hw1)
theorem k0_off14_inb : ∀ (arg15 : BitVec 32) (k0_hw1 : k0_chk1 arg15), ∀ a, (k0_off14 arg15) a + S1x256x128.size a ≤ S64x16384x128.size a := fun arg15 k0_hw1 => k0_hw1.2.1.2.1
theorem k0_off14_wordsbf16 : ∀ (arg15 : BitVec 32) (k0_hw1 : k0_chk1 arg15), (Rect.unit (s := S64x16384x128) (k0_off14 arg15) S1x256x128.size (k0_off14_inb arg15 k0_hw1)).WholeWords (EltTy.packing .bf16) := fun arg15 k0_hw1 => k0_hw1.2.1.2.2.1 (k0_off14_inb arg15 k0_hw1)
theorem k0_mult8_dvd : ∀ (arg15 : BitVec 32) (k0_hw1 : k0_chk1 arg15), 256 ∣ (k0_mult8 arg15).toNat := fun arg15 k0_hw1 => k0_hw1.2.1.2.2.2.1
theorem k0_off15_inb : ∀ (arg15 : BitVec 32) (k0_hw1 : k0_chk1 arg15), ∀ a, (k0_off15 arg15) a + S1x256x128.size a ≤ S64x16384x128.size a := fun arg15 k0_hw1 => k0_hw1.2.1.2.2.2.2.1
theorem k0_off15_wordsbf16 : ∀ (arg15 : BitVec 32) (k0_hw1 : k0_chk1 arg15), (Rect.unit (s := S64x16384x128) (k0_off15 arg15) S1x256x128.size (k0_off15_inb arg15 k0_hw1)).WholeWords (EltTy.packing .bf16) := fun arg15 k0_hw1 => k0_hw1.2.1.2.2.2.2.2.1 (k0_off15_inb arg15 k0_hw1)
theorem k0_off16_inb : ∀ (arg15 : BitVec 32) (k0_hw1 : k0_chk1 arg15), ∀ a, (k0_off16 arg15) a + S1x256x128.size a ≤ S64x16384x128.size a := fun arg15 k0_hw1 => k0_hw1.2.1.2.2.2.2.2.2.1
theorem k0_off16_wordsbf16 : ∀ (arg15 : BitVec 32) (k0_hw1 : k0_chk1 arg15), (Rect.unit (s := S64x16384x128) (k0_off16 arg15) S1x256x128.size (k0_off16_inb arg15 k0_hw1)).WholeWords (EltTy.packing .bf16) := fun arg15 k0_hw1 => k0_hw1.2.1.2.2.2.2.2.2.2.1 (k0_off16_inb arg15 k0_hw1)
theorem k0_mult9_dvd : ∀ (arg15 : BitVec 32) (k0_hw1 : k0_chk1 arg15), 256 ∣ (k0_mult9 arg15).toNat := fun arg15 k0_hw1 => k0_hw1.2.1.2.2.2.2.2.2.2.2.1
theorem k0_off17_inb : ∀ (arg15 : BitVec 32) (k0_hw1 : k0_chk1 arg15), ∀ a, (k0_off17 arg15) a + S1x256x128.size a ≤ S64x16384x128.size a := fun arg15 k0_hw1 => k0_hw1.2.1.2.2.2.2.2.2.2.2.2.1
theorem k0_off17_wordsbf16 : ∀ (arg15 : BitVec 32) (k0_hw1 : k0_chk1 arg15), (Rect.unit (s := S64x16384x128) (k0_off17 arg15) S1x256x128.size (k0_off17_inb arg15 k0_hw1)).WholeWords (EltTy.packing .bf16) := fun arg15 k0_hw1 => k0_hw1.2.1.2.2.2.2.2.2.2.2.2.2.1 (k0_off17_inb arg15 k0_hw1)
theorem k0_off18_inb : ∀ (arg15 : BitVec 32) (k0_hw1 : k0_chk1 arg15), ∀ a, (k0_off18 arg15) a + S1x256x128.size a ≤ S64x16384x128.size a := fun arg15 k0_hw1 => k0_hw1.2.1.2.2.2.2.2.2.2.2.2.2.2.1
theorem k0_off18_wordsbf16 : ∀ (arg15 : BitVec 32) (k0_hw1 : k0_chk1 arg15), (Rect.unit (s := S64x16384x128) (k0_off18 arg15) S1x256x128.size (k0_off18_inb arg15 k0_hw1)).WholeWords (EltTy.packing .bf16) := fun arg15 k0_hw1 => k0_hw1.2.1.2.2.2.2.2.2.2.2.2.2.2.2.1 (k0_off18_inb arg15 k0_hw1)
theorem k0_mult10_dvd : ∀ (arg15 : BitVec 32) (k0_hw1 : k0_chk1 arg15), 256 ∣ (k0_mult10 arg15).toNat := fun arg15 k0_hw1 => k0_hw1.2.1.2.2.2.2.2.2.2.2.2.2.2.2.2.1
theorem k0_off19_inb : ∀ (arg15 : BitVec 32) (k0_hw1 : k0_chk1 arg15), ∀ a, (k0_off19 arg15) a + S1x256x128.size a ≤ S64x16384x128.size a := fun arg15 k0_hw1 => k0_hw1.2.1.2.2.2.2.2.2.2.2.2.2.2.2.2.2.1
theorem k0_off19_wordsbf16 : ∀ (arg15 : BitVec 32) (k0_hw1 : k0_chk1 arg15), (Rect.unit (s := S64x16384x128) (k0_off19 arg15) S1x256x128.size (k0_off19_inb arg15 k0_hw1)).WholeWords (EltTy.packing .bf16) := fun arg15 k0_hw1 => k0_hw1.2.1.2.2.2.2.2.2.2.2.2.2.2.2.2.2.2.1 (k0_off19_inb arg15 k0_hw1)
theorem k0_off20_inb : ∀ (arg15 : BitVec 32) (k0_hw1 : k0_chk1 arg15), ∀ a, (k0_off20 arg15) a + S1x256x128.size a ≤ S64x16384x128.size a := fun arg15 k0_hw1 => k0_hw1.2.1.2.2.2.2.2.2.2.2.2.2.2.2.2.2.2.2.1
theorem k0_off20_wordsbf16 : ∀ (arg15 : BitVec 32) (k0_hw1 : k0_chk1 arg15), (Rect.unit (s := S64x16384x128) (k0_off20 arg15) S1x256x128.size (k0_off20_inb arg15 k0_hw1)).WholeWords (EltTy.packing .bf16) := fun arg15 k0_hw1 => k0_hw1.2.1.2.2.2.2.2.2.2.2.2.2.2.2.2.2.2.2.2.1 (k0_off20_inb arg15 k0_hw1)
theorem k0_mult11_dvd : ∀ (arg15 : BitVec 32) (k0_hw1 : k0_chk1 arg15), 256 ∣ (k0_mult11 arg15).toNat := fun arg15 k0_hw1 => k0_hw1.2.1.2.2.2.2.2.2.2.2.2.2.2.2.2.2.2.2.2.2.1
theorem k0_off21_inb : ∀ (arg15 : BitVec 32) (k0_hw1 : k0_chk1 arg15), ∀ a, (k0_off21 arg15) a + S1x256x128.size a ≤ S64x16384x128.size a := fun arg15 k0_hw1 => k0_hw1.2.1.2.2.2.2.2.2.2.2.2.2.2.2.2.2.2.2.2.2.2.1
theorem k0_off21_wordsbf16 : ∀ (arg15 : BitVec 32) (k0_hw1 : k0_chk1 arg15), (Rect.unit (s := S64x16384x128) (k0_off21 arg15) S1x256x128.size (k0_off21_inb arg15 k0_hw1)).WholeWords (EltTy.packing .bf16) := fun arg15 k0_hw1 => k0_hw1.2.1.2.2.2.2.2.2.2.2.2.2.2.2.2.2.2.2.2.2.2.2.1 (k0_off21_inb arg15 k0_hw1)
theorem k0_off22_inb : ∀ (arg15 : BitVec 32) (k0_hw1 : k0_chk1 arg15), ∀ a, (k0_off22 arg15) a + S1x256x128.size a ≤ S64x16384x128.size a := fun arg15 k0_hw1 => k0_hw1.2.1.2.2.2.2.2.2.2.2.2.2.2.2.2.2.2.2.2.2.2.2.2.1
theorem k0_off22_wordsbf16 : ∀ (arg15 : BitVec 32) (k0_hw1 : k0_chk1 arg15), (Rect.unit (s := S64x16384x128) (k0_off22 arg15) S1x256x128.size (k0_off22_inb arg15 k0_hw1)).WholeWords (EltTy.packing .bf16) := fun arg15 k0_hw1 => k0_hw1.2.1.2.2.2.2.2.2.2.2.2.2.2.2.2.2.2.2.2.2.2.2.2.2.1 (k0_off22_inb arg15 k0_hw1)
theorem k0_mult12_dvd : ∀ (arg15 : BitVec 32) (k0_hw1 : k0_chk1 arg15), 256 ∣ (k0_mult12 arg15).toNat := fun arg15 k0_hw1 => k0_hw1.2.1.2.2.2.2.2.2.2.2.2.2.2.2.2.2.2.2.2.2.2.2.2.2.2.1
theorem k0_off23_inb : ∀ (arg15 : BitVec 32) (k0_hw1 : k0_chk1 arg15), ∀ a, (k0_off23 arg15) a + S1x256x128.size a ≤ S64x16384x128.size a := fun arg15 k0_hw1 => k0_hw1.2.1.2.2.2.2.2.2.2.2.2.2.2.2.2.2.2.2.2.2.2.2.2.2.2.2.1
theorem k0_off23_wordsbf16 : ∀ (arg15 : BitVec 32) (k0_hw1 : k0_chk1 arg15), (Rect.unit (s := S64x16384x128) (k0_off23 arg15) S1x256x128.size (k0_off23_inb arg15 k0_hw1)).WholeWords (EltTy.packing .bf16) := fun arg15 k0_hw1 => k0_hw1.2.1.2.2.2.2.2.2.2.2.2.2.2.2.2.2.2.2.2.2.2.2.2.2.2.2.2.1 (k0_off23_inb arg15 k0_hw1)
theorem k0_off24_inb : ∀ (arg15 : BitVec 32) (k0_hw1 : k0_chk1 arg15), ∀ a, (k0_off24 arg15) a + S1x256x128.size a ≤ S64x16384x128.size a := fun arg15 k0_hw1 => k0_hw1.2.1.2.2.2.2.2.2.2.2.2.2.2.2.2.2.2.2.2.2.2.2.2.2.2.2.2.2.1
theorem k0_off24_wordsbf16 : ∀ (arg15 : BitVec 32) (k0_hw1 : k0_chk1 arg15), (Rect.unit (s := S64x16384x128) (k0_off24 arg15) S1x256x128.size (k0_off24_inb arg15 k0_hw1)).WholeWords (EltTy.packing .bf16) := fun arg15 k0_hw1 => k0_hw1.2.1.2.2.2.2.2.2.2.2.2.2.2.2.2.2.2.2.2.2.2.2.2.2.2.2.2.2.2.1 (k0_off24_inb arg15 k0_hw1)
theorem k0_mult13_dvd : ∀ (arg15 : BitVec 32) (k0_hw1 : k0_chk1 arg15), 256 ∣ (k0_mult13 arg15).toNat := fun arg15 k0_hw1 => k0_hw1.2.1.2.2.2.2.2.2.2.2.2.2.2.2.2.2.2.2.2.2.2.2.2.2.2.2.2.2.2.2.1
theorem k0_off25_inb : ∀ (arg15 : BitVec 32) (k0_hw1 : k0_chk1 arg15), ∀ a, (k0_off25 arg15) a + S1x256x128.size a ≤ S64x16384x128.size a := fun arg15 k0_hw1 => k0_hw1.2.1.2.2.2.2.2.2.2.2.2.2.2.2.2.2.2.2.2.2.2.2.2.2.2.2.2.2.2.2.2.1
theorem k0_off25_wordsbf16 : ∀ (arg15 : BitVec 32) (k0_hw1 : k0_chk1 arg15), (Rect.unit (s := S64x16384x128) (k0_off25 arg15) S1x256x128.size (k0_off25_inb arg15 k0_hw1)).WholeWords (EltTy.packing .bf16) := fun arg15 k0_hw1 => k0_hw1.2.1.2.2.2.2.2.2.2.2.2.2.2.2.2.2.2.2.2.2.2.2.2.2.2.2.2.2.2.2.2.2.1 (k0_off25_inb arg15 k0_hw1)
theorem k0_off26_inb : ∀ (arg15 : BitVec 32) (k0_hw1 : k0_chk1 arg15), ∀ a, (k0_off26 arg15) a + S1x256x128.size a ≤ S64x16384x128.size a := fun arg15 k0_hw1 => k0_hw1.2.1.2.2.2.2.2.2.2.2.2.2.2.2.2.2.2.2.2.2.2.2.2.2.2.2.2.2.2.2.2.2.2
theorem k0_off26_wordsbf16 : ∀ (arg15 : BitVec 32) (k0_hw1 : k0_chk1 arg15), (Rect.unit (s := S64x16384x128) (k0_off26 arg15) S1x256x128.size (k0_off26_inb arg15 k0_hw1)).WholeWords (EltTy.packing .bf16) := fun arg15 k0_hw1 => k0_hw1.2.2.1 (k0_off26_inb arg15 k0_hw1)
theorem k0_mult14_dvd : ∀ (arg15 : BitVec 32) (k0_hw1 : k0_chk1 arg15), 256 ∣ (k0_mult14 arg15).toNat := fun arg15 k0_hw1 => k0_hw1.2.2.2.1
theorem k0_off27_inb : ∀ (arg15 : BitVec 32) (k0_hw1 : k0_chk1 arg15), ∀ a, (k0_off27 arg15) a + S1x256x128.size a ≤ S64x16384x128.size a := fun arg15 k0_hw1 => k0_hw1.2.2.2.2.1
theorem k0_off27_wordsbf16 : ∀ (arg15 : BitVec 32) (k0_hw1 : k0_chk1 arg15), (Rect.unit (s := S64x16384x128) (k0_off27 arg15) S1x256x128.size (k0_off27_inb arg15 k0_hw1)).WholeWords (EltTy.packing .bf16) := fun arg15 k0_hw1 => k0_hw1.2.2.2.2.2.1 (k0_off27_inb arg15 k0_hw1)
theorem k0_off28_inb : ∀ (arg15 : BitVec 32) (k0_hw1 : k0_chk1 arg15), ∀ a, (k0_off28 arg15) a + S1x256x128.size a ≤ S64x16384x128.size a := fun arg15 k0_hw1 => k0_hw1.2.2.2.2.2.2.1
theorem k0_off28_wordsbf16 : ∀ (arg15 : BitVec 32) (k0_hw1 : k0_chk1 arg15), (Rect.unit (s := S64x16384x128) (k0_off28 arg15) S1x256x128.size (k0_off28_inb arg15 k0_hw1)).WholeWords (EltTy.packing .bf16) := fun arg15 k0_hw1 => k0_hw1.2.2.2.2.2.2.2.1 (k0_off28_inb arg15 k0_hw1)
theorem k0_mult15_dvd : ∀ (arg15 : BitVec 32) (k0_hw1 : k0_chk1 arg15), 256 ∣ (k0_mult15 arg15).toNat := fun arg15 k0_hw1 => k0_hw1.2.2.2.2.2.2.2.2.1
theorem k0_off29_inb : ∀ (arg15 : BitVec 32) (k0_hw1 : k0_chk1 arg15), ∀ a, (k0_off29 arg15) a + S1x256x128.size a ≤ S64x16384x128.size a := fun arg15 k0_hw1 => k0_hw1.2.2.2.2.2.2.2.2.2.1
theorem k0_off29_wordsbf16 : ∀ (arg15 : BitVec 32) (k0_hw1 : k0_chk1 arg15), (Rect.unit (s := S64x16384x128) (k0_off29 arg15) S1x256x128.size (k0_off29_inb arg15 k0_hw1)).WholeWords (EltTy.packing .bf16) := fun arg15 k0_hw1 => k0_hw1.2.2.2.2.2.2.2.2.2.2.1 (k0_off29_inb arg15 k0_hw1)
theorem k0_off30_inb : ∀ (arg15 : BitVec 32) (k0_hw1 : k0_chk1 arg15), ∀ a, (k0_off30 arg15) a + S1x256x128.size a ≤ S64x16384x128.size a := fun arg15 k0_hw1 => k0_hw1.2.2.2.2.2.2.2.2.2.2.2.1
theorem k0_off30_wordsbf16 : ∀ (arg15 : BitVec 32) (k0_hw1 : k0_chk1 arg15), (Rect.unit (s := S64x16384x128) (k0_off30 arg15) S1x256x128.size (k0_off30_inb arg15 k0_hw1)).WholeWords (EltTy.packing .bf16) := fun arg15 k0_hw1 => k0_hw1.2.2.2.2.2.2.2.2.2.2.2.2.1 (k0_off30_inb arg15 k0_hw1)
theorem k0_mult16_dvd : ∀ (arg15 : BitVec 32) (k0_hw1 : k0_chk1 arg15), 256 ∣ (k0_mult16 arg15).toNat := fun arg15 k0_hw1 => k0_hw1.2.2.2.2.2.2.2.2.2.2.2.2.2.1
theorem k0_off31_inb : ∀ (arg15 : BitVec 32) (k0_hw1 : k0_chk1 arg15), ∀ a, (k0_off31 arg15) a + S1x256x128.size a ≤ S64x16384x128.size a := fun arg15 k0_hw1 => k0_hw1.2.2.2.2.2.2.2.2.2.2.2.2.2.2.1
theorem k0_off31_wordsbf16 : ∀ (arg15 : BitVec 32) (k0_hw1 : k0_chk1 arg15), (Rect.unit (s := S64x16384x128) (k0_off31 arg15) S1x256x128.size (k0_off31_inb arg15 k0_hw1)).WholeWords (EltTy.packing .bf16) := fun arg15 k0_hw1 => k0_hw1.2.2.2.2.2.2.2.2.2.2.2.2.2.2.2.1 (k0_off31_inb arg15 k0_hw1)
theorem k0_off32_inb : ∀ (arg15 : BitVec 32) (k0_hw1 : k0_chk1 arg15), ∀ a, (k0_off32 arg15) a + S1x256x128.size a ≤ S64x16384x128.size a := fun arg15 k0_hw1 => k0_hw1.2.2.2.2.2.2.2.2.2.2.2.2.2.2.2.2.1
theorem k0_off32_wordsbf16 : ∀ (arg15 : BitVec 32) (k0_hw1 : k0_chk1 arg15), (Rect.unit (s := S64x16384x128) (k0_off32 arg15) S1x256x128.size (k0_off32_inb arg15 k0_hw1)).WholeWords (EltTy.packing .bf16) := fun arg15 k0_hw1 => k0_hw1.2.2.2.2.2.2.2.2.2.2.2.2.2.2.2.2.2.1 (k0_off32_inb arg15 k0_hw1)
theorem k0_mult17_dvd : ∀ (arg15 : BitVec 32) (k0_hw1 : k0_chk1 arg15), 256 ∣ (k0_mult17 arg15).toNat := fun arg15 k0_hw1 => k0_hw1.2.2.2.2.2.2.2.2.2.2.2.2.2.2.2.2.2.2.1
theorem k0_mult18_dvd : ∀ (arg15 : BitVec 32) (k0_hw1 : k0_chk1 arg15), 256 ∣ (k0_mult18 arg15).toNat := fun arg15 k0_hw1 => k0_hw1.2.2.2.2.2.2.2.2.2.2.2.2.2.2.2.2.2.2.2.1
theorem k0_mult19_dvd : ∀ (arg15 : BitVec 32) (k0_hw1 : k0_chk1 arg15), 256 ∣ (k0_mult19 arg15).toNat := fun arg15 k0_hw1 => k0_hw1.2.2.2.2.2.2.2.2.2.2.2.2.2.2.2.2.2.2.2.2.1
theorem k0_mult20_dvd : ∀ (arg15 : BitVec 32) (k0_hw1 : k0_chk1 arg15), 256 ∣ (k0_mult20 arg15).toNat := fun arg15 k0_hw1 => k0_hw1.2.2.2.2.2.2.2.2.2.2.2.2.2.2.2.2.2.2.2.2.2.1
theorem k0_mult21_dvd : ∀ (arg15 : BitVec 32) (k0_hw1 : k0_chk1 arg15), 256 ∣ (k0_mult21 arg15).toNat := fun arg15 k0_hw1 => k0_hw1.2.2.2.2.2.2.2.2.2.2.2.2.2.2.2.2.2.2.2.2.2.2.1
theorem k0_mult22_dvd : ∀ (arg15 : BitVec 32) (k0_hw1 : k0_chk1 arg15), 256 ∣ (k0_mult22 arg15).toNat := fun arg15 k0_hw1 => k0_hw1.2.2.2.2.2.2.2.2.2.2.2.2.2.2.2.2.2.2.2.2.2.2.2.1
theorem k0_mult23_dvd : ∀ (arg15 : BitVec 32) (k0_hw1 : k0_chk1 arg15), 256 ∣ (k0_mult23 arg15).toNat := fun arg15 k0_hw1 => k0_hw1.2.2.2.2.2.2.2.2.2.2.2.2.2.2.2.2.2.2.2.2.2.2.2.2.1
theorem k0_mult24_dvd : ∀ (arg15 : BitVec 32) (k0_hw1 : k0_chk1 arg15), 256 ∣ (k0_mult24 arg15).toNat := fun arg15 k0_hw1 => k0_hw1.2.2.2.2.2.2.2.2.2.2.2.2.2.2.2.2.2.2.2.2.2.2.2.2.2.1
theorem k0_mult25_dvd : ∀ (arg15 : BitVec 32) (k0_hw1 : k0_chk1 arg15), 256 ∣ (k0_mult25 arg15).toNat := fun arg15 k0_hw1 => k0_hw1.2.2.2.2.2.2.2.2.2.2.2.2.2.2.2.2.2.2.2.2.2.2.2.2.2.2.1
theorem k0_mult26_dvd : ∀ (arg15 : BitVec 32) (k0_hw1 : k0_chk1 arg15), 256 ∣ (k0_mult26 arg15).toNat := fun arg15 k0_hw1 => k0_hw1.2.2.2.2.2.2.2.2.2.2.2.2.2.2.2.2.2.2.2.2.2.2.2.2.2.2.2.1
theorem k0_mult27_dvd : ∀ (arg15 : BitVec 32) (k0_hw1 : k0_chk1 arg15), 256 ∣ (k0_mult27 arg15).toNat := fun arg15 k0_hw1 => k0_hw1.2.2.2.2.2.2.2.2.2.2.2.2.2.2.2.2.2.2.2.2.2.2.2.2.2.2.2.2.1
theorem k0_mult28_dvd : ∀ (arg15 : BitVec 32) (k0_hw1 : k0_chk1 arg15), 256 ∣ (k0_mult28 arg15).toNat := fun arg15 k0_hw1 => k0_hw1.2.2.2.2.2.2.2.2.2.2.2.2.2.2.2.2.2.2.2.2.2.2.2.2.2.2.2.2.2.1
theorem k0_mult29_dvd : ∀ (arg15 : BitVec 32) (k0_hw1 : k0_chk1 arg15), 256 ∣ (k0_mult29 arg15).toNat := fun arg15 k0_hw1 => k0_hw1.2.2.2.2.2.2.2.2.2.2.2.2.2.2.2.2.2.2.2.2.2.2.2.2.2.2.2.2.2.2.1
theorem k0_mult30_dvd : ∀ (arg15 : BitVec 32) (k0_hw1 : k0_chk1 arg15), 256 ∣ (k0_mult30 arg15).toNat := fun arg15 k0_hw1 => k0_hw1.2.2.2.2.2.2.2.2.2.2.2.2.2.2.2.2.2.2.2.2.2.2.2.2.2.2.2.2.2.2.2.1
theorem k0_mult31_dvd : ∀ (arg15 : BitVec 32) (k0_hw1 : k0_chk1 arg15), 256 ∣ (k0_mult31 arg15).toNat := fun arg15 k0_hw1 => k0_hw1.2.2.2.2.2.2.2.2.2.2.2.2.2.2.2.2.2.2.2.2.2.2.2.2.2.2.2.2.2.2.2.2.1
theorem k0_mult32_dvd : ∀ (arg15 : BitVec 32) (k0_hw1 : k0_chk1 arg15), 256 ∣ (k0_mult32 arg15).toNat := fun arg15 k0_hw1 => k0_hw1.2.2.2.2.2.2.2.2.2.2.2.2.2.2.2.2.2.2.2.2.2.2.2.2.2.2.2.2.2.2.2.2.2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c1_i32_0 : BitVec 32 := 1#32
  let c0_i32_1 : BitVec 32 := 0#32
  let c0_i32_2 : BitVec 32 := 0#32
  ![c1_i32_0.toNat, v1.toNat, c0_i32_1.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let c0_i32_0 : BitVec 32 := 0#32
  let c0_i32_1 : BitVec 32 := 0#32
  ![c2_i32.toNat, v1.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "log2e" => some (((Real.log 2)⁻¹ : ℝ) : EReal)
  | "neg_log2e" => some ((-((Real.log 2)⁻¹) : ℝ) : EReal)
  | "no_underflow" => some ⊤
  | _ => none
-- ==== ReferenceIdeal.lean ====
abbrev S64x16384x128 : Shape := ⟨3, ![64, 16384, 128]⟩
abbrev S16x16384x128 : Shape := ⟨3, ![16, 16384, 128]⟩
abbrev S16x16384x16384 : Shape := ⟨3, ![16, 16384, 16384]⟩
abbrev S_ : Shape := ⟨0, ![]⟩
abbrev S16384x16384 : Shape := ⟨2, ![16384, 16384]⟩
abbrev S1x16384x16384 : Shape := ⟨3, ![1, 16384, 16384]⟩
abbrev S16384x16x128 : Shape := ⟨3, ![16384, 16, 128]⟩
abbrev S16384x2048 : Shape := ⟨2, ![16384, 2048]⟩

abbrev nBuf : Space → Nat
  | .hbm => 84
  | .vmem => 0
  | .smem => 0
  | _ => 0

abbrev bufTy : (tb : Table) → Fin (tcTables nBuf tb) → BufTy
  | .hbm, ⟨0, _⟩ => ⟨S64x16384x128, .bf16⟩
  | .hbm, ⟨1, _⟩ => ⟨S16x16384x128, .bf16⟩
  | .hbm, ⟨2, _⟩ => ⟨S16x16384x128, .f32⟩
  | .hbm, ⟨3, _⟩ => ⟨S16x16384x128, .bf16⟩
  | .hbm, ⟨4, _⟩ => ⟨S16x16384x128, .f32⟩
  | .hbm, ⟨5, _⟩ => ⟨S16x16384x128, .bf16⟩
  | .hbm, ⟨6, _⟩ => ⟨S16x16384x128, .f32⟩
  | .hbm, ⟨7, _⟩ => ⟨S16x16384x128, .bf16⟩
  | .hbm, ⟨8, _⟩ => ⟨S16x16384x128, .f32⟩
  | .hbm, ⟨9, _⟩ => ⟨S16x16384x16384, .f32⟩
  | .hbm, ⟨10, _⟩ => ⟨S_, .f32⟩
  | .hbm, ⟨11, _⟩ => ⟨S_, .f32⟩
  | .hbm, ⟨12, _⟩ => ⟨S16x16384x16384, .f32⟩
  | .hbm, ⟨13, _⟩ => ⟨S16x16384x16384, .f32⟩
  | .hbm, ⟨14, _⟩ => ⟨S16384x16384, .i32⟩
  | .hbm, ⟨15, _⟩ => ⟨S16384x16384, .i32⟩
  | .hbm, ⟨16, _⟩ => ⟨S16384x16384, .i1⟩
  | .hbm, ⟨17, _⟩ => ⟨S1x16384x16384, .i1⟩
  | .hbm, ⟨18, _⟩ => ⟨S16x16384x16384, .f32⟩
  | .hbm, ⟨19, _⟩ => ⟨S16x16384x16384, .f32⟩
  | .hbm, ⟨20, _⟩ => ⟨S_, .f32⟩
  | .hbm, ⟨21, _⟩ => ⟨S16x16384x16384, .f32⟩
  | .hbm, ⟨22, _⟩ => ⟨S16x16384x16384, .f32⟩
  | .hbm, ⟨23, _⟩ => ⟨S16x16384x16384, .f32⟩
  | .hbm, ⟨24, _⟩ => ⟨S16x16384x16384, .f32⟩
  | .hbm, ⟨25, _⟩ => ⟨S16x16384x16384, .i1⟩
  | .hbm, ⟨26, _⟩ => ⟨S16x16384x16384, .f32⟩
  | .hbm, ⟨27, _⟩ => ⟨S16x16384x16384, .f32⟩
  | .hbm, ⟨28, _⟩ => ⟨S16x16384x16384, .f32⟩
  | .hbm, ⟨29, _⟩ => ⟨S16x16384x16384, .f32⟩
  | .hbm, ⟨30, _⟩ => ⟨S16x16384x16384, .f32⟩
  | .hbm, ⟨31, _⟩ => ⟨S16x16384x16384, .f32⟩
  | .hbm, ⟨32, _⟩ => ⟨S16x16384x16384, .f32⟩
  | .hbm, ⟨33, _⟩ => ⟨S16x16384x16384, .f32⟩
  | .hbm, ⟨34, _⟩ => ⟨S16x16384x16384, .f32⟩
  | .hbm, ⟨35, _⟩ => ⟨S_, .f32⟩
  | .hbm, ⟨36, _⟩ => ⟨S_, .f32⟩
  | .hbm, ⟨37, _⟩ => ⟨S16x16384x16384, .i1⟩
  | .hbm, ⟨38, _⟩ => ⟨S16x16384x16384, .f32⟩
  | .hbm, ⟨39, _⟩ => ⟨S16x16384x16384, .f32⟩
  | .hbm, ⟨40, _⟩ => ⟨S16x16384x16384, .f32⟩
  | .hbm, ⟨41, _⟩ => ⟨S_, .f32⟩
  | .hbm, ⟨42, _⟩ => ⟨S_, .f32⟩
  | .hbm, ⟨43, _⟩ => ⟨S16x16384x16384, .f32⟩
  | .hbm, ⟨44, _⟩ => ⟨S16x16384x16384, .f32⟩
  | .hbm, ⟨45, _⟩ => ⟨S16x16384x16384, .f32⟩
  | .hbm, ⟨46, _⟩ => ⟨S1x16384x16384, .i1⟩
  | .hbm, ⟨47, _⟩ => ⟨S16x16384x16384, .f32⟩
  | .hbm, ⟨48, _⟩ => ⟨S_, .f32⟩
  | .hbm, ⟨49, _⟩ => ⟨S16x16384x16384, .f32⟩
  | .hbm, ⟨50, _⟩ => ⟨S16x16384x16384, .f32⟩
  | .hbm, ⟨51, _⟩ => ⟨S16x16384x16384, .f32⟩
  | .hbm, ⟨52, _⟩ => ⟨S16x16384x16384, .f32⟩
  | .hbm, ⟨53, _⟩ => ⟨S16x16384x16384, .i1⟩
  | .hbm, ⟨54, _⟩ => ⟨S16x16384x16384, .f32⟩
  | .hbm, ⟨55, _⟩ => ⟨S16x16384x16384, .f32⟩
  | .hbm, ⟨56, _⟩ => ⟨S16x16384x16384, .f32⟩
  | .hbm, ⟨57, _⟩ => ⟨S16x16384x16384, .f32⟩
  | .hbm, ⟨58, _⟩ => ⟨S16x16384x16384, .f32⟩
  | .hbm, ⟨59, _⟩ => ⟨S16x16384x16384, .f32⟩
  | .hbm, ⟨60, _⟩ => ⟨S16x16384x16384, .f32⟩
  | .hbm, ⟨61, _⟩ => ⟨S16x16384x16384, .f32⟩
  | .hbm, ⟨62, _⟩ => ⟨S16x16384x16384, .f32⟩
  | .hbm, ⟨63, _⟩ => ⟨S16x16384x16384, .f32⟩
  | .hbm, ⟨64, _⟩ => ⟨S16x16384x16384, .f32⟩
  | .hbm, ⟨65, _⟩ => ⟨S_, .f32⟩
  | .hbm, ⟨66, _⟩ => ⟨S_, .f32⟩
  | .hbm, ⟨67, _⟩ => ⟨S16x16384x16384, .i1⟩
  | .hbm, ⟨68, _⟩ => ⟨S16x16384x16384, .f32⟩
  | .hbm, ⟨69, _⟩ => ⟨S16x16384x16384, .f32⟩
  | .hbm, ⟨70, _⟩ => ⟨S16x16384x128, .f32⟩
  | .hbm, ⟨71, _⟩ => ⟨S16x16384x128, .f32⟩
  | .hbm, ⟨72, _⟩ => ⟨S16x16384x128, .f32⟩
  | .hbm, ⟨73, _⟩ => ⟨S_, .f32⟩
  | .hbm, ⟨74, _⟩ => ⟨S16x16384x128, .f32⟩
  | .hbm, ⟨75, _⟩ => ⟨S16x16384x128, .f32⟩
  | .hbm, ⟨76, _⟩ => ⟨S_, .f32⟩
  | .hbm, ⟨77, _⟩ => ⟨S16x16384x128, .f32⟩
  | .hbm, ⟨78, _⟩ => ⟨S16x16384x128, .f32⟩
  | .hbm, ⟨79, _⟩ => ⟨S16x16384x128, .f32⟩
  | .hbm, ⟨80, _⟩ => ⟨S16x16384x128, .f32⟩
  | .hbm, ⟨81, _⟩ => ⟨S16384x16x128, .f32⟩
  | .hbm, ⟨82, _⟩ => ⟨S16384x2048, .f32⟩
  | .hbm, ⟨83, _⟩ => ⟨S16384x2048, .bf16⟩
  | _, _ => ⟨S64x16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v17 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v18 : Ref sig .tc := ⟨.hbm, 39, rfl⟩
abbrev main_v19 : Ref sig .tc := ⟨.hbm, 40, rfl⟩
abbrev main_call2_call0_cst : Ref sig .tc := ⟨.hbm, 41, rfl⟩
abbrev main_call2_call0_v0 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_call3_v0 : Ref sig .tc := ⟨.hbm, 47, rfl⟩
abbrev main_call3_call0_cst : Ref sig .tc := ⟨.hbm, 48, rfl⟩
abbrev main_call3_call0_v0 : Ref sig .tc := ⟨.hbm, 49, rfl⟩
abbrev main_call3_call0_v1 : Ref sig .tc := ⟨.hbm, 50, rfl⟩
abbrev main_call3_call0_v2 : Ref sig .tc := ⟨.hbm, 51, rfl⟩
abbrev main_call3_call0_v3 : Ref sig .tc := ⟨.hbm, 52, rfl⟩
abbrev main_call3_call0_v4 : Ref sig .tc := ⟨.hbm, 53, rfl⟩
abbrev main_call3_call0_v5 : Ref sig .tc := ⟨.hbm, 54, rfl⟩
abbrev main_call3_call0_v6 : Ref sig .tc := ⟨.hbm, 55, rfl⟩
abbrev main_call3_call0_v7 : Ref sig .tc := ⟨.hbm, 56, rfl⟩
abbrev main_call3_call0_v8 : Ref sig .tc := ⟨.hbm, 57, rfl⟩
abbrev main_call3_call0_v9 : Ref sig .tc := ⟨.hbm, 58, rfl⟩
abbrev main_call3_call0_v10 : Ref sig .tc := ⟨.hbm, 59, rfl⟩
abbrev main_call3_call0_v11 : Ref sig .tc := ⟨.hbm, 60, rfl⟩
abbrev main_call3_v1 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v27 : Ref sig .tc := ⟨.hbm, 69, rfl⟩
abbrev main_v28 : Ref sig .tc := ⟨.hbm, 70, rfl⟩
abbrev main_call5_v0 : Ref sig .tc := ⟨.hbm, 71, rfl⟩
abbrev main_call5_v1 : Ref sig .tc := ⟨.hbm, 72, rfl⟩
abbrev main_call5_cst : Ref sig .tc := ⟨.hbm, 73, rfl⟩
abbrev main_call5_v2 : Ref sig .tc := ⟨.hbm, 74, rfl⟩
abbrev main_call5_v3 : Ref sig .tc := ⟨.hbm, 75, rfl⟩
abbrev main_call5_cst_0 : Ref sig .tc := ⟨.hbm, 76, rfl⟩
abbrev main_call5_v4 : Ref sig .tc := ⟨.hbm, 77, rfl⟩
abbrev main_call5_v5 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩

abbrev nD : Nat := 1
abbrev τ : Topo := Topo.v7x

variable {F : FTy → Type} [FloatOps F]
-- ==== Kernel2.lean ====
abbrev S16384x2048 : Shape := ⟨2, ![16384, 2048]⟩
abbrev S1x2048x8192 : Shape := ⟨3, ![1, 2048, 8192]⟩
abbrev S_ : Shape := ⟨0, ![]⟩
abbrev S1x2048 : Shape := ⟨2, ![1, 2048]⟩
abbrev S1x6144 : Shape := ⟨2, ![1, 6144]⟩
abbrev S1x8192 : Shape := ⟨2, ![1, 8192]⟩
abbrev S2048x8192 : Shape := ⟨2, ![2048, 8192]⟩
abbrev S64x16384x128 : Shape := ⟨3, ![64, 16384, 128]⟩
abbrev S1024x2048 : Shape := ⟨2, ![1024, 2048]⟩
abbrev S2048x1024 : Shape := ⟨2, ![2048, 1024]⟩
abbrev S1x1024 : Shape := ⟨2, ![1, 1024]⟩
abbrev S8x1024x128 : Shape := ⟨3, ![8, 1024, 128]⟩
abbrev S1024x1024 : Shape := ⟨2, ![1024, 1024]⟩
abbrev S1024x128 : Shape := ⟨2, ![1024, 128]⟩
abbrev S1x1024x128 : Shape := ⟨3, ![1, 1024, 128]⟩

abbrev nBuf : Space → Nat
  | .hbm => 10
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S1x2048x8192, .f32⟩
  | .hbm, ⟨2, _⟩ => ⟨S_, .f32⟩
  | .hbm, ⟨3, _⟩ => ⟨S1x2048, .f32⟩
  | .hbm, ⟨4, _⟩ => ⟨S_, .f32⟩
  | .hbm, ⟨5, _⟩ => ⟨S1x6144, .f32⟩
  | .hbm, ⟨6, _⟩ => ⟨S1x8192, .f32⟩
  | .hbm, ⟨7, _⟩ => ⟨S2048x8192, .f32⟩
  | .hbm, ⟨8, _⟩ => ⟨S2048x8192, .bf16⟩
  | .hbm, ⟨9, _⟩ => ⟨S64x16384x128, .bf16⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S8x1024x128, .bf16⟩
  | .local _ .vmem, ⟨7, _⟩ => ⟨S8x1024x128, .bf16⟩
  | .local _ .vmem, ⟨8, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S16384x2048 : Shape := ⟨2, ![16384, 2048]⟩
abbrev S1x2048x8192 : Shape := ⟨3, ![1, 2048, 8192]⟩
abbrev S2048x8192 : Shape := ⟨2, ![2048, 8192]⟩
abbrev S16384x8192 : Shape := ⟨2, ![16384, 8192]⟩
abbrev S_ : Shape := ⟨0, ![]⟩
abbrev S16384x64x128 : Shape := ⟨3, ![16384, 64, 128]⟩
abbrev S64x16384x128 : Shape := ⟨3, ![64, 16384, 128]⟩

abbrev nBuf : Space → Nat
  | .hbm => 15
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048x8192, .f32⟩
  | .hbm, ⟨2, _⟩ => ⟨S2048x8192, .f32⟩
  | .hbm, ⟨3, _⟩ => ⟨S16384x8192, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S_, .f32⟩
  | .hbm, ⟨9, _⟩ => ⟨S16384x2048, .f32⟩
  | .hbm, ⟨10, _⟩ => ⟨S16384x2048, .f32⟩
  | .hbm, ⟨11, _⟩ => ⟨S16384x8192, .f32⟩
  | .hbm, ⟨12, _⟩ => ⟨S16384x64x128, .f32⟩
  | .hbm, ⟨13, _⟩ => ⟨S64x16384x128, .f32⟩
  | .hbm, ⟨14, _⟩ => ⟨S64x16384x128, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel3.lean ====
abbrev S16384x2048 : Shape := ⟨2, ![16384, 2048]⟩
abbrev S1x2048x2048 : Shape := ⟨3, ![1, 2048, 2048]⟩
abbrev S2x2048 : Shape := ⟨2, ![2, 2048]⟩
abbrev S2048x2048 : Shape := ⟨2, ![2048, 2048]⟩
abbrev S1x2048 : Shape := ⟨2, ![1, 2048]⟩
abbrev S2048 : Shape := ⟨1, ![2048]⟩
abbrev S1024x2048 : Shape := ⟨2, ![1024, 2048]⟩
abbrev S128x2048 : Shape := ⟨2, ![128, 2048]⟩
abbrev S128 : Shape := ⟨1, ![128]⟩
abbrev S128x1 : Shape := ⟨2, ![128, 1]⟩

abbrev nBuf : Space → Nat
  | .hbm => 14
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .f32⟩
  | .hbm, ⟨2, _⟩ => ⟨S16384x2048, .f32⟩
  | .hbm, ⟨3, _⟩ => ⟨S2x2048, .f32⟩
  | .hbm, ⟨4, _⟩ => ⟨S2x2048, .f32⟩
  | .hbm, ⟨5, _⟩ => ⟨S2048x2048, .f32⟩
  | .hbm, ⟨6, _⟩ => ⟨S2048x2048, .bf16⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .f32⟩
  | .local _ .vmem, ⟨4, _⟩ => ⟨S1024x2048, .f32⟩
  | .local _ .vmem, ⟨5, _⟩ => ⟨S1x2048, .f32⟩
  | .local _ .vmem, ⟨6, _⟩ => ⟨S1x2048, .f32⟩
  | .local _ .vmem, ⟨7, _⟩ => ⟨S1024x2048, .f32⟩
  | .local _ .vmem, ⟨8, _⟩ => ⟨S1024x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S16384x2048 : Shape := ⟨2, ![16384, 2048]⟩
abbrev S1x2048x2048 : Shape := ⟨3, ![1, 2048, 2048]⟩
abbrev S2x2048 : Shape := ⟨2, ![2, 2048]⟩
abbrev S_ : Shape := ⟨0, ![]⟩
abbrev S2048x2048 : Shape := ⟨2, ![2048, 2048]⟩
abbrev S16384 : Shape := ⟨1, ![16384]⟩
abbrev S16384x1 : Shape := ⟨2, ![16384, 1]⟩
abbrev S1x2048 : Shape := ⟨2, ![1, 2048]⟩
abbrev S2048 : Shape := ⟨1, ![2048]⟩

abbrev nBuf : Space → Nat
  | .hbm => 43
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .f32⟩
  | .hbm, ⟨2, _⟩ => ⟨S16384x2048, .f32⟩
  | .hbm, ⟨3, _⟩ => ⟨S2x2048, .f32⟩
  | .hbm, ⟨4, _⟩ => ⟨S2x2048, .f32⟩
  | .hbm, ⟨5, _⟩ => ⟨S_, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S2048x2048, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x2048, .f32⟩
  | .hbm, ⟨32, _⟩ => ⟨S16384x2048, .f32⟩
  | .hbm, ⟨33, _⟩ => ⟨S1x2048, .f32⟩
  | .hbm, ⟨34, _⟩ => ⟨S2048, .f32⟩
  | .hbm, ⟨35, _⟩ => ⟨S1x2048, .f32⟩
  | .hbm, ⟨36, _⟩ => ⟨S16384x2048, .f32⟩
  | .hbm, ⟨37, _⟩ => ⟨S16384x2048, .f32⟩
  | .hbm, ⟨38, _⟩ => ⟨S1x2048, .f32⟩
  | .hbm, ⟨39, _⟩ => ⟨S2048, .f32⟩
  | .hbm, ⟨40, _⟩ => ⟨S1x2048, .f32⟩
  | .hbm, ⟨41, _⟩ => ⟨S16384x2048, .f32⟩
  | .hbm, ⟨42, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Proof.B.Rows.lean ====
module

public import Idealize.ShloMosaic.Lib.Tactic
public import Idealize.ShloMosaic.Lib.Pipeline.Kit

/-! # An array of sixteen heads, held head by head

The kernel's scratch arrays hold one (256, 128) tile per head, and every store writes one whole tile. `glue` builds the
contents of such an array from its tiles; sixteen stores, one per head, leave `glue`, and a load of one head reads its tile. -/

@[expose] public section

noncomputable section

namespace Cert.Proof.B

open Idealize.ShloMosaic

/-- Sixteen heads' tiles. -/
abbrev Hs : Shape := ⟨3, ![16, 256, 128]⟩
/-- One head's tile, with the head axis kept. -/
abbrev Ts : Shape := ⟨3, ![1, 256, 128]⟩
/-- One head's tile. -/
abbrev Tt : Shape := ⟨2, ![256, 128]⟩

theorem inbH (h : Fin 16) : ∀ a, (![h.val, 0, 0] : Fin 3 → ℕ) a + Ts.size a ≤ Hs.size a := by
  intro a; have := h.isLt; fin_cases a <;> simp [Shape.size] <;> omega

/-- Head `h`'s rectangle. -/
abbrev rH (h : Fin 16) : Rect Hs := Rect.unit (s := Hs) ![h.val, 0, 0] Ts.size (inbH h)

/-- An index of the whole array, read within its head. -/
def inH (y : Hs.Idx) : Ts.Idx := fun a => match a with
  | ⟨0, _⟩ => (0 : Fin 1)
  | ⟨1, _⟩ => y 1
  | ⟨2, _⟩ => y 2

/-- The array with tile `P h` at head `h`. -/
def glue {α : Type} (P : Fin 16 → Ts.Idx → α) : Hs.Idx → α := fun y => P (y 0) (inH y)

theorem emb_zero (h : Fin 16) (x : Ts.Idx) : (rH h).emb x 0 = h := by
  apply Fin.ext
  have : ((rH h).emb x 0).val = h.val + 1 * (x 0).val := rfl
  have hx : (x 0).val < 1 := (x 0).isLt
  rw [this]; omega

theorem inH_emb (h : Fin 16) (x : Ts.Idx) : inH ((rH h).emb x) = x := by
  funext a; apply Fin.ext
  have hx : (x 0).val < 1 := (x 0).isLt
  fin_cases a
  · show 0 = (x 0).val; omega
  · show 0 + 1 * (x 1).val = (x 1).val; omega
  · show 0 + 1 * (x 2).val = (x 2).val; omega

theorem glue_emb {α : Type} (P : Fin 16 → Ts.Idx → α) (h : Fin 16) (x : Ts.Idx) : glue P ((rH h).emb x) = P h x := by
  unfold glue; rw [emb_zero, inH_emb]

theorem mem_rH (y : Hs.Idx) : y ∈ (rH (y 0)).set := by
  have hy : (rH (y 0)).emb (inH y) = y := by
    funext a; apply Fin.ext
    fin_cases a
    · show (y 0).val + 1 * 0 = (y 0).val; omega
    · show 0 + 1 * (y 1).val = (y 1).val; omega
    · show 0 + 1 * (y 2).val = (y 2).val; omega
  rw [Rect.mem_set_unit]
  intro a
  have h := congrFun hy a
  fin_cases a
  · exact ⟨le_rfl, Nat.lt_succ_self _⟩
  · exact ⟨Nat.zero_le _, by have := (y 1).isLt; simpa using this⟩
  · exact ⟨Nat.zero_le _, by have := (y 2).isLt; simpa using this⟩

/-- The heads, last stored first. -/
abbrev heads : List (Fin 16) := [15, 14, 13, 12, 11, 10, 9, 8, 7, 6, 5, 4, 3, 2, 1, 0]

variable {nD : ℕ} {sig : RefSig} {κ : Kind} {sp : Space} {e : EltTy} {Val : EltTy → Type}

/-- The sixteen stores of `P`'s tiles. -/
abbrev pieces (P : Fin 16 → Ts.Idx → Val e) : List (View.Piece Val Hs e) := heads.map fun h => ⟨rH h, P h⟩

theorem read_pieces (v : View sig κ sp Hs e) (f : v.ty.Contents Val) (P : Fin 16 → Ts.Idx → Val e) :
    v.read Val (v.writes Val f (pieces P)) = glue P := by
  funext y
  refine View.read_writes_apply_of_pieces v f (glue P) (pieces P) ?_ y ?_
  · intro p hp x
    obtain ⟨h, -, rfl⟩ := List.mem_map.mp hp
    exact (glue_emb P h x).symm
  · refine ⟨⟨rH (y 0), P (y 0)⟩, List.mem_map.mpr ⟨y 0, ?_, rfl⟩, mem_rH y⟩
    have : ∀ h : Fin 16, h ∈ heads := by decide
    exact this _

theorem numelT : Tt.numel = Ts.numel := by decide

/-- The transfers that land one tile per head, the head axis dropped, in the order of the list from its end. -/
def dmaW (v : View sig κ sp Hs e) (f : v.ty.Contents Val) (w : Fin 16 → Tt.Idx → Val e) : List (Fin 16) → v.ty.Contents Val
  | [] => f
  | h :: L => ((v.slice (rH h)).reshape Tt numelT).write Val (dmaW v f w L) (w h) Finset.univ

theorem dmaW_eq (v : View sig κ sp Hs e) (f : v.ty.Contents Val) (w : Fin 16 → Tt.Idx → Val e) (L : List (Fin 16)) :
    dmaW v f w L = v.writes Val f (L.map fun h => ⟨rH h, fun x => w h ((Shape.reshapeEquiv numelT).symm x)⟩) := by
  induction L with
  | nil => rfl
  | cons h L ih =>
    show ((v.slice (rH h)).reshape Tt numelT).write Val (dmaW v f w L) (w h) Finset.univ = _
    rw [View.write_reshape_univ, ih]; rfl

theorem read_dmaW (v : View sig κ sp Hs e) (f : v.ty.Contents Val) (w : Fin 16 → Tt.Idx → Val e) :
    v.read Val (dmaW v f w heads) = glue fun h x => w h ((Shape.reshapeEquiv numelT).symm x) := by
  rw [dmaW_eq]; exact read_pieces v f _

/-- A load of head `h` from contents that read as `glue P`. -/
theorem readAt_glue (v : View sig κ sp Hs e) (f : v.ty.Contents Val) (P : Fin 16 → Ts.Idx → Val e) (hf : v.read Val f = glue P)
    (h : Fin 16) : v.readAt Val (rH h).toLoadRect f = P h := by
  funext x
  rw [View.readAt_apply, hf]
  exact glue_emb P h x

end Cert.Proof.B

end
-- ==== Proof.B.Cols.lean ====
module

public import proofs.«01_k».proof.Proof.B.Rows

/-! # The output block, held tile by tile -/

@[expose] public section

noncomputable section

namespace Cert.Proof.B

open Idealize.ShloMosaic

variable {sig : RefSig} {κ : Kind} {sp : Space} {e : EltTy} {Val : EltTy → Type}

/-- Sixteen tiles side by side. -/
abbrev Os : Shape := ⟨2, ![256, 2048]⟩

theorem inbO (h : Fin 16) : ∀ a, (![0, 128 * h.val] : Fin 2 → ℕ) a + Tt.size a ≤ Os.size a := by
  intro a; have := h.isLt; fin_cases a <;> simp [Shape.size] <;> omega

/-- Tile `h`'s rectangle. -/
abbrev rO (h : Fin 16) : Rect Os := Rect.unit (s := Os) ![0, 128 * h.val] Tt.size (inbO h)

/-- The tile of a column, and the index within it. -/
def tileO (y : Os.Idx) : Fin 16 := ⟨(y 1).val / 128, by have h : (y 1).val < 2048 := (y 1).isLt; omega⟩
def inO (y : Os.Idx) : Tt.Idx := fun a => match a with
  | ⟨0, _⟩ => y 0
  | ⟨1, _⟩ => (⟨(y 1).val % 128, Nat.mod_lt _ (by decide)⟩ : Fin 128)

/-- The block with tile `P h` at columns `128 h` on. -/
def glueO {α : Type} (P : Fin 16 → Tt.Idx → α) : Os.Idx → α := fun y => P (tileO y) (inO y)

theorem glueO_emb {α : Type} (P : Fin 16 → Tt.Idx → α) (h : Fin 16) (x : Tt.Idx) : glueO P ((rO h).emb x) = P h x := by
  have hx : (x 1).val < 128 := (x 1).isLt
  have e1 : ((rO h).emb x 1).val = 128 * h.val + 1 * (x 1).val := rfl
  have e0 : ((rO h).emb x 0).val = 0 + 1 * (x 0).val := rfl
  have ht : tileO ((rO h).emb x) = h := by
    apply Fin.ext; show ((rO h).emb x 1).val / 128 = h.val; rw [e1]; omega
  have hi : inO ((rO h).emb x) = x := by
    funext a; apply Fin.ext
    fin_cases a
    · show ((rO h).emb x 0).val = (x 0).val; rw [e0]; omega
    · show ((rO h).emb x 1).val % 128 = (x 1).val; rw [e1]; omega
  unfold glueO; rw [ht, hi]

theorem mem_rO (y : Os.Idx) : y ∈ (rO (tileO y)).set := by
  rw [Rect.mem_set_unit]
  intro a
  have h1 : (y 1).val < 2048 := (y 1).isLt
  have h0 : (y 0).val < 256 := (y 0).isLt
  fin_cases a
  · exact ⟨Nat.zero_le _, by show (y 0).val < 0 + 256; omega⟩
  · exact ⟨by show 128 * ((y 1).val / 128) ≤ (y 1).val; omega, by show (y 1).val < 128 * ((y 1).val / 128) + 128; omega⟩

/-- The sixteen stores of the output tiles. -/
abbrev piecesO (P : Fin 16 → Tt.Idx → Val e) : List (View.Piece Val Os e) := heads.map fun h => ⟨rO h, P h⟩

theorem read_piecesO (v : View sig κ sp Os e) (f : v.ty.Contents Val) (P : Fin 16 → Tt.Idx → Val e) :
    v.read Val (v.writes Val f (piecesO P)) = glueO P := by
  funext y
  refine View.read_writes_apply_of_pieces v f (glueO P) (piecesO P) ?_ y ?_
  · intro p hp x
    obtain ⟨h, -, rfl⟩ := List.mem_map.mp hp
    exact (glueO_emb P h x).symm
  · refine ⟨⟨rO (tileO y), P (tileO y)⟩, List.mem_map.mpr ⟨tileO y, ?_, rfl⟩, mem_rO y⟩
    have : ∀ h : Fin 16, h ∈ heads := by decide
    exact this _

end Cert.Proof.B

end
-- ==== Proof.K.Rows.lean ====
module

public import Idealize.ShloMosaic.Lib.Tactic
public import Idealize.ShloMosaic.Lib.Pipeline.Kit

/-! # An array of sixteen heads, held head by head

The kernel's scratch arrays hold one (256, 128) tile per head, and every store writes one whole tile. `glue` builds the
contents of such an array from its tiles; sixteen stores, one per head, leave `glue`, and a load of one head reads its tile. -/

@[expose] public section

noncomputable section

namespace Cert.Proof.K

open Idealize.ShloMosaic

/-- Sixteen heads' tiles. -/
abbrev Hs : Shape := ⟨3, ![16, 256, 128]⟩
/-- One head's tile, with the head axis kept. -/
abbrev Ts : Shape := ⟨3, ![1, 256, 128]⟩
/-- One head's tile. -/
abbrev Tt : Shape := ⟨2, ![256, 128]⟩

theorem inbH (h : Fin 16) : ∀ a, (![h.val, 0, 0] : Fin 3 → ℕ) a + Ts.size a ≤ Hs.size a := by
  intro a; have := h.isLt; fin_cases a <;> simp [Shape.size] <;> omega

/-- Head `h`'s rectangle. -/
abbrev rH (h : Fin 16) : Rect Hs := Rect.unit (s := Hs) ![h.val, 0, 0] Ts.size (inbH h)

/-- An index of the whole array, read within its head. -/
def inH (y : Hs.Idx) : Ts.Idx := fun a => match a with
  | ⟨0, _⟩ => (0 : Fin 1)
  | ⟨1, _⟩ => y 1
  | ⟨2, _⟩ => y 2

/-- The array with tile `P h` at head `h`. -/
def glue {α : Type} (P : Fin 16 → Ts.Idx → α) : Hs.Idx → α := fun y => P (y 0) (inH y)

theorem emb_zero (h : Fin 16) (x : Ts.Idx) : (rH h).emb x 0 = h := by
  apply Fin.ext
  have : ((rH h).emb x 0).val = h.val + 1 * (x 0).val := rfl
  have hx : (x 0).val < 1 := (x 0).isLt
  rw [this]; omega

theorem inH_emb (h : Fin 16) (x : Ts.Idx) : inH ((rH h).emb x) = x := by
  funext a; apply Fin.ext
  have hx : (x 0).val < 1 := (x 0).isLt
  fin_cases a
  · show 0 = (x 0).val; omega
  · show 0 + 1 * (x 1).val = (x 1).val; omega
  · show 0 + 1 * (x 2).val = (x 2).val; omega

theorem glue_emb {α : Type} (P : Fin 16 → Ts.Idx → α) (h : Fin 16) (x : Ts.Idx) : glue P ((rH h).emb x) = P h x := by
  unfold glue; rw [emb_zero, inH_emb]

theorem mem_rH (y : Hs.Idx) : y ∈ (rH (y 0)).set := by
  have hy : (rH (y 0)).emb (inH y) = y := by
    funext a; apply Fin.ext
    fin_cases a
    · show (y 0).val + 1 * 0 = (y 0).val; omega
    · show 0 + 1 * (y 1).val = (y 1).val; omega
    · show 0 + 1 * (y 2).val = (y 2).val; omega
  rw [Rect.mem_set_unit]
  intro a
  have h := congrFun hy a
  fin_cases a
  · exact ⟨le_rfl, Nat.lt_succ_self _⟩
  · exact ⟨Nat.zero_le _, by have := (y 1).isLt; simpa using this⟩
  · exact ⟨Nat.zero_le _, by have := (y 2).isLt; simpa using this⟩

/-- The heads, last stored first. -/
abbrev heads : List (Fin 16) := [15, 14, 13, 12, 11, 10, 9, 8, 7, 6, 5, 4, 3, 2, 1, 0]

variable {nD : ℕ} {sig : RefSig} {κ : Kind} {sp : Space} {e : EltTy} {Val : EltTy → Type}

/-- The sixteen stores of `P`'s tiles. -/
abbrev pieces (P : Fin 16 → Ts.Idx → Val e) : List (View.Piece Val Hs e) := heads.map fun h => ⟨rH h, P h⟩

theorem read_pieces (v : View sig κ sp Hs e) (f : v.ty.Contents Val) (P : Fin 16 → Ts.Idx → Val e) :
    v.read Val (v.writes Val f (pieces P)) = glue P := by
  funext y
  refine View.read_writes_apply_of_pieces v f (glue P) (pieces P) ?_ y ?_
  · intro p hp x
    obtain ⟨h, -, rfl⟩ := List.mem_map.mp hp
    exact (glue_emb P h x).symm
  · refine ⟨⟨rH (y 0), P (y 0)⟩, List.mem_map.mpr ⟨y 0, ?_, rfl⟩, mem_rH y⟩
    have : ∀ h : Fin 16, h ∈ heads := by decide
    exact this _

theorem numelT : Tt.numel = Ts.numel := by decide

/-- The transfers that land one tile per head, the head axis dropped, in the order of the list from its end. -/
def dmaW (v : View sig κ sp Hs e) (f : v.ty.Contents Val) (w : Fin 16 → Tt.Idx → Val e) : List (Fin 16) → v.ty.Contents Val
  | [] => f
  | h :: L => ((v.slice (rH h)).reshape Tt numelT).write Val (dmaW v f w L) (w h) Finset.univ

theorem dmaW_eq (v : View sig κ sp Hs e) (f : v.ty.Contents Val) (w : Fin 16 → Tt.Idx → Val e) (L : List (Fin 16)) :
    dmaW v f w L = v.writes Val f (L.map fun h => ⟨rH h, fun x => w h ((Shape.reshapeEquiv numelT).symm x)⟩) := by
  induction L with
  | nil => rfl
  | cons h L ih =>
    show ((v.slice (rH h)).reshape Tt numelT).write Val (dmaW v f w L) (w h) Finset.univ = _
    rw [View.write_reshape_univ, ih]; rfl

theorem read_dmaW (v : View sig κ sp Hs e) (f : v.ty.Contents Val) (w : Fin 16 → Tt.Idx → Val e) :
    v.read Val (dmaW v f w heads) = glue fun h x => w h ((Shape.reshapeEquiv numelT).symm x) := by
  rw [dmaW_eq]; exact read_pieces v f _

/-- A load of head `h` from contents that read as `glue P`. -/
theorem readAt_glue (v : View sig κ sp Hs e) (f : v.ty.Contents Val) (P : Fin 16 → Ts.Idx → Val e) (hf : v.read Val f = glue P)
    (h : Fin 16) : v.readAt Val (rH h).toLoadRect f = P h := by
  funext x
  rw [View.readAt_apply, hf]
  exact glue_emb P h x

end Cert.Proof.K

end
-- ==== Proof.K.Ops.lean ====
module

public import proofs.«01_k».proof.Proof.Gen.KernelIdeal.Skeleton
public import proofs.«01_k».proof.Proof.K.Rows

/-! # What the kernel computes of one head, as functions

One name for each stage of a head's work: the scores of two tiles, base-2 softplus, suffix sums, the two stages of the
diagonal pair of blocks, one trip of the loop over earlier blocks, and the gated output tile. -/

@[expose] public section

noncomputable section

namespace Cert.Proof.K

open Cert.KernelIdeal Cert.KernelIdeal.Gen
open Idealize.ShloMosaic

variable {F : FTy → Type} [FloatOps F] [Named F]

/-- The scores of a query tile against a key tile. -/
def hz (q k : Vec F S1x256x128 .bf16) : FVec F S256x256 .f32 :=
  matmul dot_S256x128_S256x128_S256x256_1_1_0_0_n_n none (shapeCast S256x128 q shapeCasts_S1x256x128_S256x128 : FVec F S256x128 .bf16)
    (shapeCast S256x128 k shapeCasts_S1x256x128_S256x128 : FVec F S256x128 .bf16) (constant S256x256 .f32 0x00000000#32)

/-- Base-2 softplus. -/
def spW (z : FVec F S256x256 .f32) : FVec F S256x256 .f32 :=
  addf (maximumf z (broadcast S256x256 (Scalar.ofBits .f32 0x00000000#32)))
    (mulf (log (addf (broadcast S256x256 (Scalar.ofBits .f32 0x3F800000#32))
        (exp2 (subf (broadcast S256x256 (Scalar.ofBits .f32 0x00000000#32)) (absf z)))))
      (broadcast S256x256 (Named.named κ "log2e" 0x3FB8AA3B#32)))

/-- The mask of the diagonal block: the keys before the query. -/
def strict : IVec S256x256 1 :=
  cmpi .slt (iota .tc S256x256 32 [1] iota_S256x256_d1_w32) (iota .tc S256x256 32 [0] iota_S256x256_d0_w32)

/-- A masked array of the diagonal block: zero at the keys not before the query. -/
def masked (x : FVec F S256x256 .f32) : FVec F S256x256 .f32 :=
  select strict x (broadcast S256x256 (Scalar.ofBits .f32 0x00000000#32))

/-- The rounding the products take their operand with. -/
def lo (x : FVec F S256x256 .f32) : FVec F S256x256 .bf16 := truncf .bf16 x bitsLt_bf16_f32

/-- A (256, 128) array beside itself. -/
def dup (x : FVec F S256x128 .f32) : FVec F S256x256 .f32 :=
  concatenate S256x256 1 [⟨S256x128, x⟩, ⟨S256x128, x⟩] concatenates_S256x128_S256x128_S256x256_d1

/-- Column 0 of a square, spread over 128 columns. -/
def col0 (x : FVec F S256x256 .f32) : FVec F S256x128 .f32 :=
  broadcastTo S256x128 (shapeCast S256x1 (extractStridedSlice S256x1 ![0, 0] x slices_S256x256_o0_0_S256x1 : FVec F S256x1 .f32)
    shapeCasts_S256x1_S256x1 : FVec F S256x1 .f32) broadcasts_S256x1_S256x128

/-- Weights against a value tile. -/
def wv (w : FVec F S256x256 .f32) (v : Vec F S1x256x128 .bf16) : FVec F S256x128 .f32 :=
  matmul dot_S256x256_S256x128_S256x128_1_0_0_1_n_n none (lo w)
    (shapeCast S256x128 v shapeCasts_S1x256x128_S256x128 : FVec F S256x128 .bf16) (constant S256x128 .f32 0x00000000#32)

def flat (x : Vec F S1x256x128 .f32) : FVec F S256x128 .f32 := shapeCast S256x128 x shapeCasts_S1x256x128_S256x128
def tall (x : FVec F S256x128 .f32) : FVec F S1x256x128 .f32 := shapeCast S1x256x128 x shapeCasts_S256x128_S1x256x128

/-- Suffix sums of one square through the triangular operand. -/
def cum1 (sfx : Vec F S256x256 .bf16) (a : FVec F S256x256 .f32) : FVec F S256x256 .f32 :=
  matmul dot_S256x256_S256x256_S256x256_1_0_0_1_n_n none (lo a)
    (shapeCast S256x256 sfx shapeCasts_S256x256_S256x256 : FVec F S256x256 .bf16) (constant S256x256 .f32 0x00000000#32)

/-- One trip of the loop, one head: the accumulator. -/
def tripA (sfx : Vec F S256x256 .bf16) (q k v : Vec F S1x256x128 .bf16) (C A : Vec F S1x256x128 .f32) : Vec F S1x256x128 .f32 :=
  tall (addf (flat A) (wv (exp2 (subf (subf (hz q k) (cum1 sfx (spW (hz q k)))) (dup (flat C)))) v))

/-- One trip of the loop, one head: the carry. -/
def tripC (sfx : Vec F S256x256 .bf16) (q k : Vec F S1x256x128 .bf16) (C : Vec F S1x256x128 .f32) : Vec F S1x256x128 .f32 :=
  tall (addf (flat C) (col0 (cum1 sfx (spW (hz q k)))))

/-- The least carry: what the loop's test reads. -/
def least (C : Vec F S16x256x128 .f32) : F .f32 := k0_pay3 C

/-- The loop's test on the least carry. -/
def again (C : Fin 16 → Vec F S1x256x128 .f32) : Prop :=
  Scalar.cmpf .olt (least (glue C)) (Named.named κ "no_underflow" 0x43170000#32) = 1#1

/-- Head `4 g + t`. -/
def hd (g t : Fin 4) : Fin 16 := ⟨4 * g.val + t.val, by omega⟩

/-- The suffix sums of a group of four heads: the diagonal blocks' squares, then the previous blocks'. -/
def cum8 (sfx : Vec F S256x256 .bf16) (zd zp : Fin 16 → FVec F S256x256 .f32) (g : Fin 4) : FVec F S2048x256 .f32 :=
  matmul dot_S2048x256_S256x256_S2048x256_1_0_0_1_n_n none
    (concatenate S2048x256 0
      [⟨S256x256, lo (masked (spW (zd (hd g 0))))⟩, ⟨S256x256, lo (masked (spW (zd (hd g 1))))⟩,
       ⟨S256x256, lo (masked (spW (zd (hd g 2))))⟩, ⟨S256x256, lo (masked (spW (zd (hd g 3))))⟩,
       ⟨S256x256, lo (spW (zp (hd g 0)))⟩, ⟨S256x256, lo (spW (zp (hd g 1)))⟩,
       ⟨S256x256, lo (spW (zp (hd g 2)))⟩, ⟨S256x256, lo (spW (zp (hd g 3)))⟩]
      concatenates_S256x256_S256x256_S256x256_S256x256_S256x256_S256x256_S256x256_S256x256_S2048x256_d0 : FVec F S2048x256 .bf16)
    (shapeCast S256x256 sfx shapeCasts_S256x256_S256x256 : FVec F S256x256 .bf16) (constant S2048x256 .f32 0x00000000#32)

theorem slices8 (t : Fin 8) : S2048x256.Slices ![256 * t.val, 0] S256x256 := by
  revert t; decide

/-- Square `t` of the eight. -/
def sq8 (c : FVec F S2048x256 .f32) (t : Fin 8) : FVec F S256x256 .f32 :=
  extractStridedSlice S256x256 ![256 * t.val, 0] c (slices8 t)

/-- A head's group, and its place in the group. -/
def grp (h : Fin 16) : Fin 4 := ⟨h.val / 4, by omega⟩
def slotD (h : Fin 16) : Fin 8 := ⟨h.val % 4, by omega⟩
def slotP (h : Fin 16) : Fin 8 := ⟨4 + h.val % 4, by omega⟩

/-- The diagonal block's and the previous block's suffix sums. -/
def cumD (sfx : Vec F S256x256 .bf16) (q kd kp : Fin 16 → Vec F S1x256x128 .bf16) (h : Fin 16) : FVec F S256x256 .f32 :=
  sq8 (cum8 sfx (fun h => hz (q h) (kd h)) (fun h => hz (q h) (kp h)) (grp h)) (slotD h)
def cumP (sfx : Vec F S256x256 .bf16) (q kd kp : Fin 16 → Vec F S1x256x128 .bf16) (h : Fin 16) : FVec F S256x256 .f32 :=
  sq8 (cum8 sfx (fun h => hz (q h) (kd h)) (fun h => hz (q h) (kp h)) (grp h)) (slotP h)

/-- The accumulator after the diagonal and the previous block; the previous block counts only from step 1 on. -/
def initA (i : BitVec 32) (sfx : Vec F S256x256 .bf16) (q kd kp vd vp : Fin 16 → Vec F S1x256x128 .bf16) (h : Fin 16) :
    Vec F S1x256x128 .f32 :=
  tall (addf (wv (masked (exp2 (subf (hz (q h) (kd h)) (cumD sfx q kd kp h)))) (vd h))
    (Scalar.select (Scalar.cmpi .sgt i 0#32)
      (wv (exp2 (subf (subf (hz (q h) (kp h)) (cumP sfx q kd kp h)) (dup (col0 (cumD sfx q kd kp h))))) (vp h))
      (broadcast S256x128 (Scalar.ofBits .f32 0x00000000#32))))

/-- The carry after the diagonal and the previous block. -/
def initC (sfx : Vec F S256x256 .bf16) (q kd kp : Fin 16 → Vec F S1x256x128 .bf16) (h : Fin 16) : Vec F S1x256x128 .f32 :=
  tall (addf (col0 (cumD sfx q kd kp h)) (col0 (cumP sfx q kd kp h)))

/-- The gated tile a head leaves in the output block. -/
def outT (A : Vec F S1x256x128 .f32) (g : Vec F S1x256x128 .bf16) : FVec F S256x128 .bf16 :=
  let x : FVec F S256x128 .f32 := extf .f32 (shapeCast S256x128 g shapeCasts_S1x256x128_S256x128 : FVec F S256x128 .bf16) bitsLt_bf16_f32
  truncf .bf16 (mulf (flat A) (divf x (addf (broadcast S256x128 (Scalar.ofBits .f32 0x3F800000#32))
    (exp2 (mulf x (broadcast S256x128 (Named.named κ "neg_log2e" 0xBFB8AA3B#32))))))) bitsLt_bf16_f32

/-- The state of the loop: accumulators and carries, head by head. -/
abbrev St (F : FTy → Type) [FloatOps F] : Type := (Fin 16 → Vec F S1x256x128 .f32) × (Fin 16 → Vec F S1x256x128 .f32)

/-- One trip. -/
def stepS (sfx : Vec F S256x256 .bf16) (q k v : Fin 16 → Vec F S1x256x128 .bf16) (s : St F) : St F :=
  (fun h => tripA sfx (q h) (k h) (v h) (s.2 h) (s.1 h), fun h => tripC sfx (q h) (k h) (s.2 h))

open Classical in
/-- The loop with `n` blocks to go: block `n - 1` first, until the test fails. -/
def loopS (sfx : Vec F S256x256 .bf16) (q : Fin 16 → Vec F S1x256x128 .bf16) (k v : ℕ → Fin 16 → Vec F S1x256x128 .bf16) :
    ℕ → St F → St F
  | 0, s => s
  | n + 1, s => if again s.2 then loopS sfx q k v n (stepS sfx q (k n) (v n) s) else s

/-- Row block `b` of head plane `n` of the projected array. -/
def plane {α : Type} (fh : S64x16384x128.Idx → α) (n : ℕ) (b : ℕ) : S1x256x128.Idx → α := fun x =>
  fh fun a => match a with
    | ⟨0, _⟩ => (⟨n % 64, Nat.mod_lt _ (by norm_num)⟩ : Fin 64)
    | ⟨1, _⟩ => (⟨256 * (b % 64) + (x 1).val, by have h : (x 1).val < 256 := (x 1).isLt; omega⟩ : Fin 16384)
    | ⟨2, _⟩ => x 2

end Cert.Proof.K

end
-- ==== Proof.K.Common.lean ====
module

public import proofs.«01_k».proof.Proof.K.Ops
public import proofs.«01_k».proof.Proof.Gen.KernelIdeal.Launch
public import Idealize.ShloMosaic.Lib.Tactic
public import Idealize.ShloMosaic.Lib.Pipeline.Kit

/-! # What a grid step holds

Names for the assertions of the kernel's body: a buffer held whole, one read token of the projected array per transfer
cell (the body's own transfers read that array while the pipeline's windows read it too), the transfer semaphores at zero. -/

@[expose] public section

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev UR (nD : Nat) (τ : Topo) : Type := URounds (GSem nD τ sig) Unit
abbrev UU (nD : Nat) (τ : Topo) : Type := UR nD τ × Counters

local notation "𝕄" => MT nD τ sig Unit (Elt F) ℕ (UU nD τ) ℕ

/-- Contents of a memref's buffer on device `c`. -/
abbrev Bf (c : Dev nD) {sp : Space} {S : Shape} {e : EltTy} (M : Memref sig .tc sp S e) : Type :=
  Buf (Elt F) (M.view.loc (c : Thread nD τ))

/-- The buffer of `M`, held whole at contents `f`. -/
abbrev pt (c : Dev nD) {sp : Space} {S : Shape} {e : EltTy} (M : Memref sig .tc sp S e) (f : Bf (F := F) c M) : sProp 𝕄 :=
  M.view.loc (c : Thread nD τ) ↦{fullShare} f

/-- Transfer cell `k`'s read token of the projected array, taken from the share `q`. -/
abbrev tok (c : Dev nD) (q : PosShare TreeShare) (f : Bf (F := F) c (Memref.whole main_arg0)) (k : ℕ) : sProp 𝕄 :=
  (Memref.whole main_arg0).view.loc (c : Thread nD τ) ↦{Transfers.shareTokN q k} f

/-- The tokens of the 32 cells. -/
abbrev toks (c : Dev nD) (q : PosShare TreeShare) (fh : Bf (F := F) c (Memref.whole main_arg0)) : sProp 𝕄 :=
  iprop(tok c q fh 15 ∗ tok c q fh 16 ∗ tok c q fh 17 ∗ tok c q fh 18 ∗ tok c q fh 19 ∗ tok c q fh 20 ∗ tok c q fh 21
    ∗ tok c q fh 22 ∗ tok c q fh 23 ∗ tok c q fh 24 ∗ tok c q fh 25 ∗ tok c q fh 26 ∗ tok c q fh 27 ∗ tok c q fh 28
    ∗ tok c q fh 29 ∗ tok c q fh 30 ∗ tok c q fh 31 ∗ tok c q fh 32 ∗ tok c q fh 33 ∗ tok c q fh 34 ∗ tok c q fh 35
    ∗ tok c q fh 36 ∗ tok c q fh 37 ∗ tok c q fh 38 ∗ tok c q fh 39 ∗ tok c q fh 40 ∗ tok c q fh 41 ∗ tok c q fh 42
    ∗ tok c q fh 43 ∗ tok c q fh 44 ∗ tok c q fh 45 ∗ tok c q fh 46)

/-- The 32 transfer semaphores at zero. -/
abbrev sems0 (c : Dev nD) : sProp 𝕄 :=
  iprop(semVal ((c : Thread nD τ), .dma 15) 0 ∗ semVal ((c : Thread nD τ), .dma 16) 0 ∗ semVal ((c : Thread nD τ), .dma 17) 0
    ∗ semVal ((c : Thread nD τ), .dma 18) 0 ∗ semVal ((c : Thread nD τ), .dma 19) 0 ∗ semVal ((c : Thread nD τ), .dma 20) 0
    ∗ semVal ((c : Thread nD τ), .dma 21) 0 ∗ semVal ((c : Thread nD τ), .dma 22) 0 ∗ semVal ((c : Thread nD τ), .dma 23) 0
    ∗ semVal ((c : Thread nD τ), .dma 24) 0 ∗ semVal ((c : Thread nD τ), .dma 25) 0 ∗ semVal ((c : Thread nD τ), .dma 26) 0
    ∗ semVal ((c : Thread nD τ), .dma 27) 0 ∗ semVal ((c : Thread nD τ), .dma 28) 0 ∗ semVal ((c : Thread nD τ), .dma 29) 0
    ∗ semVal ((c : Thread nD τ), .dma 30) 0 ∗ semVal ((c : Thread nD τ), .dma 31) 0 ∗ semVal ((c : Thread nD τ), .dma 32) 0
    ∗ semVal ((c : Thread nD τ), .dma 33) 0 ∗ semVal ((c : Thread nD τ), .dma 34) 0 ∗ semVal ((c : Thread nD τ), .dma 35) 0
    ∗ semVal ((c : Thread nD τ), .dma 36) 0 ∗ semVal ((c : Thread nD τ), .dma 37) 0 ∗ semVal ((c : Thread nD τ), .dma 38) 0
    ∗ semVal ((c : Thread nD τ), .dma 39) 0 ∗ semVal ((c : Thread nD τ), .dma 40) 0 ∗ semVal ((c : Thread nD τ), .dma 41) 0
    ∗ semVal ((c : Thread nD τ), .dma 42) 0 ∗ semVal ((c : Thread nD τ), .dma 43) 0 ∗ semVal ((c : Thread nD τ), .dma 44) 0
    ∗ semVal ((c : Thread nD τ), .dma 45) 0 ∗ semVal ((c : Thread nD τ), .dma 46) 0)

theorem inbP (n : ℕ) (hn : n < 64) (J : ℕ) (hJ : J + 256 ≤ 16384) :
    ∀ a, (![n, J, 0] : Fin 3 → ℕ) a + S1x256x128.size a ≤ S64x16384x128.size a := by
  intro a; fin_cases a <;> simp [Shape.size] <;> omega

/-- What a transfer of plane `n`'s rows from `J` on carries. -/
def rowsAt {α : Type} (fh : S64x16384x128.Idx → α) (n : ℕ) (hn : n < 64) (J : ℕ) (hJ : J + 256 ≤ 16384) : Tt.Idx → α := fun y =>
  fh ((Rect.unit (s := S64x16384x128) ![n, J, 0] S1x256x128.size (inbP n hn J hJ)).emb (Shape.reshapeEquiv numelT y))

theorem rowsAt_plane {α : Type} (fh : S64x16384x128.Idx → α) (n : ℕ) (hn : n < 64) (J : ℕ) (hJ : J + 256 ≤ 16384) (b : ℕ)
    (hb : J = 256 * b) : (fun x => rowsAt fh n hn J hJ ((Shape.reshapeEquiv numelT).symm x)) = plane fh n b := by
  funext x
  unfold rowsAt plane
  rw [Equiv.apply_symm_apply]
  congr 1
  funext a; apply Fin.ext
  have hx : (x 0).val < 1 := (x 0).isLt
  fin_cases a
  · show n + 1 * (x 0).val = n % 64; omega
  · show J + 1 * (x 1).val = 256 * (b % 64) + (x 1).val; omega
  · show 0 + 1 * (x 2).val = (x 2).val; omega

end Cert.Proof.K

end
-- ==== Proof.K.Trip.lean ====
module

public import proofs.«01_k».proof.Proof.K.Common

/-! # One trip of the loop over the earlier blocks -/

@[expose] public section

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

/-- The loop. -/
abbrev whileP (i : grid0.Coords) (M0 : Memref sig .tc .vmem S16x256x128 .bf16) (h0 : M0.IsWhole)
    (M6 : Memref sig .tc .vmem S256x256 .bf16) (h6 : M6.IsWhole) (j : BitVec 32) (x : F .f32) :=
  cc0_while1 (F := F) i cc0_scratch4 (Memref.whole cc0_scratch2) (Memref.isWhole_whole _) (Memref.whole main_arg0)
    (Memref.isWhole_whole _) (Memref.whole cc0_scratch3) (Memref.isWhole_whole _) M0 h0 M6 h6 (Memref.whole cc0_scratch1)
    (Memref.isWhole_whole _) (Memref.whole cc0_scratch0) (Memref.isWhole_whole _) j x

/-- What the loop holds: the query tiles, the triangular operand, the accumulators and carries at the state `s`, the two
    landing buffers at any contents, the tokens and semaphores, and what is owed. -/
abbrev held (c : Dev nD) (q : PosShare TreeShare) (M0 : Memref sig .tc .vmem S16x256x128 .bf16) (M6 : Memref sig .tc .vmem S256x256 .bf16)
    (f0 : Bf (F := F) c M0) (f6 : Bf (F := F) c M6) (fh : Bf (F := F) c (Memref.whole main_arg0)) (s : St F) : sProp 𝕄 :=
  iprop(pt c M0 f0 ∗ pt c M6 f6 ∗ pt c (Memref.whole cc0_scratch0) (glue s.1) ∗ pt c (Memref.whole cc0_scratch1) (glue s.2)
    ∗ (∃ fk, pt c (Memref.whole cc0_scratch2) fk) ∗ (∃ fv, pt c (Memref.whole cc0_scratch3) fv) ∗ toks c q fh ∗ sems0 c
    ∗ ∃ W, owes (c : Thread nD τ) 0 W)

/-- The query tiles and the triangular operand, as loaded. -/
abbrev tiles (c : Dev nD) (M : Memref sig .tc .vmem S16x256x128 .bf16) (f : Bf (F := F) c M) : Fin 16 → Vec F S1x256x128 .bf16 :=
  fun h => M.view.readAt (Elt F) (rH h).toLoadRect f
abbrev square (c : Dev nD) (M : Memref sig .tc .vmem S256x256 .bf16) (f : Bf (F := F) c M) : Vec F S256x256 .bf16 :=
  M.view.readAt (Elt F) (Rect.unit (s := S256x256) ![0, 0] S256x256.size inb_S256x256_S256x256_0_0).toLoadRect f

theorem full_read {α : Type} (f : S16x256x128.Idx → α) :
    (fun x => f ((Rect.unit (s := S16x256x128) ![0, 0, 0] S16x256x128.size inb_S16x256x128_S16x256x128_0_0_0).toLoadRect.idx x)) = f := by
  funext x; congr 1; funext a; apply Fin.ext
  fin_cases a
  · show 0 + 1 * (x 0).val = (x 0).val; omega
  · show 0 + 1 * (x 1).val = (x 1).val; omega
  · show 0 + 1 * (x 2).val = (x 2).val; omega

/-- The loop called with these words. -/
abbrev callP (i : grid0.Coords) (M0 : Memref sig .tc .vmem S16x256x128 .bf16) (h0 : M0.IsWhole)
    (M6 : Memref sig .tc .vmem S256x256 .bf16) (h6 : M6.IsWhole) (j : BitVec 32) (x : F .f32) :
    Prog (TpuEff nD τ sig (Elt F) (Λ₀ F) .tc) (BitVec 32 × F .f32) :=
  Prog.op (TpuEff.call (1 : Fin 2)
    (⟨i, cc0_scratch4, Memref.whole cc0_scratch2, Memref.isWhole_whole _, Memref.whole main_arg0, Memref.isWhole_whole _,
      Memref.whole cc0_scratch3, Memref.isWhole_whole _, M0, h0, M6, h6, Memref.whole cc0_scratch1, Memref.isWhole_whole _,
      Memref.whole cc0_scratch0, Memref.isWhole_whole _, j, x⟩ : Cc0While1 F)) Prog.ret

/-- What is known of the words the loop's test and addresses read at block `b`. -/
structure BlockWord (j : BitVec 32) (b : ℕ) : Prop where
  lt : b < 62
  chk : k0_chk1 j
  ge : Scalar.cmpi .sge j 0#32 = 1#1
  row : (Scalar.muli j 256#32).toNat = 256 * b

set_option maxRecDepth 65536 in
set_option maxHeartbeats 8000000 in
/-- One trip at block `b`: the continuation is the loop itself, at the next block and the next state. -/
theorem trip (c : Dev nD) (v : Option Variants.nat.V) (i : grid0.Coords) (q : PosShare TreeShare)
    (M0 : Memref sig .tc .vmem S16x256x128 .bf16) (h0 : M0.IsWhole) (M6 : Memref sig .tc .vmem S256x256 .bf16) (h6 : M6.IsWhole)
    (f0 : Bf (F := F) c M0) (f6 : Bf (F := F) c M6) (fh : Bf (F := F) c (Memref.whole main_arg0))
    (fa : Bf (F := F) c (Memref.whole cc0_scratch0)) (fc : Bf (F := F) c (Memref.whole cc0_scratch1))
    (fk : Bf (F := F) c (Memref.whole cc0_scratch2)) (fv : Bf (F := F) c (Memref.whole cc0_scratch3)) (W : Waits sig Unit)
    (j : BitVec 32) (hj : k0_chk1 j) (x : F .f32)
    (hcond : Scalar.andi (Scalar.cmpi .sge j 0#32) (Scalar.cmpf .olt x (Named.named κ "no_underflow" 0x43170000#32)) = 1#1)
    (Q : BitVec 32 × F .f32 → sProp 𝕄) (s : St F) (b : ℕ) (hb : BlockWord j b) (hfa : fa = glue s.1) (hfc : fc = glue s.2)
    (R : sProp 𝕄) (hcall : iprop(held c q M0 M6 f0 f6 fh (stepS (square c M6 f6) (tiles c M0 f0) (fun h => plane fh (16 + h.val) b)
        (fun h => plane fh (32 + h.val) b) s) ∗ R)
      ⊢ wp frame (wpE (defs₀ (F := F)) Variants.nat c v) Set.univ
        (callP i M0 h0 M6 h6 (Scalar.subi j 1#32)
          (least (glue (stepS (square c M6 f6) (tiles c M0 f0) (fun h => plane fh (16 + h.val) b)
            (fun h => plane fh (32 + h.val) b) s).2))) Q) :
    iprop(pt c M0 f0 ∗ pt c M6 f6 ∗ pt c (Memref.whole cc0_scratch0) fa ∗ pt c (Memref.whole cc0_scratch1) fc
      ∗ pt c (Memref.whole cc0_scratch2) fk ∗ pt c (Memref.whole cc0_scratch3) fv ∗ toks c q fh ∗ sems0 c ∗ owes (c : Thread nD τ) 0 W ∗ R)
    ⊢ wp frame (wpE (defs₀ (F := F)) Variants.nat c v) Set.univ (whileP i M0 h0 M6 h6 j x) Q := by
  unfold whileP
  rw [cc0_while1_eq_skeleton]; unfold cc0_while1_skel
  iintro ⟨H0, H6, Ha, Hc, Hkb, Hvb,
    ⟨T15, T16, T17, T18, T19, T20, T21, T22, T23, T24, T25, T26, T27, T28, T29, T30, T31, T32, T33, T34, T35, T36, T37, T38, T39, T40, T41, T42, T43, T44, T45, T46⟩,
    ⟨S15, S16, S17, S18, S19, S20, S21, S22, S23, S24, S25, S26, S27, S28, S29, S30, S31, S32, S33, S34, S35, S36, S37, S38, S39, S40, S41, S42, S43, S44, S45, S46⟩, HO, HR⟩
  set_option sl_exec.dmaWindow true in sl_exec_parts (disch := assumption)
  have hJ : (Scalar.muli j 256#32).toNat + 256 ≤ 16384 := by rw [hb.row]; have := hb.lt; omega
  have hJ : (Scalar.muli j 256#32).toNat + 256 ≤ 16384 := by rw [hb.row]; have := hb.lt; omega
  have hK : ∀ h, (Memref.whole cc0_scratch2).view.readAt (Elt F) (rH h).toLoadRect
      (dmaW (Memref.whole cc0_scratch2).view fk (fun h : Fin 16 => rowsAt fh (16 + h.val) (by omega) _ hJ) heads)
        = plane fh (16 + h.val) b := fun h => by
    rw [readAt_glue _ _ _ (read_dmaW _ _ _)]; exact rowsAt_plane _ _ _ _ _ _ hb.row
  have hV : ∀ h, (Memref.whole cc0_scratch3).view.readAt (Elt F) (rH h).toLoadRect
      (dmaW (Memref.whole cc0_scratch3).view fv (fun h : Fin 16 => rowsAt fh (32 + h.val) (by omega) _ hJ) heads)
        = plane fh (32 + h.val) b := fun h => by
    rw [readAt_glue _ _ _ (read_dmaW _ _ _)]; exact rowsAt_plane _ _ _ _ _ _ hb.row
  have hCl : trip.sl.Hc_16 c M0 M6 f0 f6 fh fc fk j hj
      = pieces (stepS (square c M6 f6) (tiles c M0 f0) (fun h => plane fh (16 + h.val) b) (fun h => plane fh (32 + h.val) b) s).2 := by
    have e : trip.sl.Hc_16 c M0 M6 f0 f6 fh fc fk j hj
      = pieces (fun h => tripC (square c M6 f6) (tiles c M0 f0 h) ((Memref.whole cc0_scratch2).view.readAt (Elt F) (rH h).toLoadRect
        (dmaW (Memref.whole cc0_scratch2).view fk (fun h : Fin 16 => rowsAt fh (16 + h.val) (by omega) _ hJ) heads))
        ((Memref.whole cc0_scratch1).view.readAt (Elt F) (rH h).toLoadRect fc)) := by rfl
    rw [e]; simp only [hK, readAt_glue (Memref.whole cc0_scratch1).view fc s.2 hfc]; rfl
  have hAl : ((⟨Rect.unit ![15, 0, 0] S1x256x128.size inb_S16x256x128_S1x256x128_15_0_0,
        k0_pay301 (trip.sl.v2545 c M0 f0 fh fk j hj) (square c M6 f6)
          ((Memref.whole cc0_scratch1).view.readAt (Elt F) (rH 15).toLoadRect fc)
          ((Memref.whole cc0_scratch0).view.readAt (Elt F) (rH 15).toLoadRect fa) (trip.sl.v2571 c fh fv j hj)⟩
        : View.Piece (Elt F) S16x256x128 .f32) :: trip.sl.Ha_15 c M0 M6 f0 f6 fh fa fc fk fv j hj)
      = pieces (stepS (square c M6 f6) (tiles c M0 f0) (fun h => plane fh (16 + h.val) b) (fun h => plane fh (32 + h.val) b) s).1 := by
    have e : ((⟨Rect.unit ![15, 0, 0] S1x256x128.size inb_S16x256x128_S1x256x128_15_0_0,
        k0_pay301 (trip.sl.v2545 c M0 f0 fh fk j hj) (square c M6 f6)
          ((Memref.whole cc0_scratch1).view.readAt (Elt F) (rH 15).toLoadRect fc)
          ((Memref.whole cc0_scratch0).view.readAt (Elt F) (rH 15).toLoadRect fa) (trip.sl.v2571 c fh fv j hj)⟩
        : View.Piece (Elt F) S16x256x128 .f32) :: trip.sl.Ha_15 c M0 M6 f0 f6 fh fa fc fk fv j hj)
      = pieces (fun h => tripA (square c M6 f6) (tiles c M0 f0 h) ((Memref.whole cc0_scratch2).view.readAt (Elt F) (rH h).toLoadRect
        (dmaW (Memref.whole cc0_scratch2).view fk (fun h : Fin 16 => rowsAt fh (16 + h.val) (by omega) _ hJ) heads))
        ((Memref.whole cc0_scratch3).view.readAt (Elt F) (rH h).toLoadRect
        (dmaW (Memref.whole cc0_scratch3).view fv (fun h : Fin 16 => rowsAt fh (32 + h.val) (by omega) _ hJ) heads))
        ((Memref.whole cc0_scratch1).view.readAt (Elt F) (rH h).toLoadRect fc)
        ((Memref.whole cc0_scratch0).view.readAt (Elt F) (rH h).toLoadRect fa)) := by rfl
    rw [e]
    simp only [hK, hV, readAt_glue (Memref.whole cc0_scratch1).view fc s.2 hfc, readAt_glue (Memref.whole cc0_scratch0).view fa s.1 hfa]
    rfl
  have hx : k0_pay3 (trip.sl.v2588 c M0 M6 f0 f6 fh fc fk j hj)
      = least (glue (stepS (square c M6 f6) (tiles c M0 f0) (fun h => plane fh (16 + h.val) b) (fun h => plane fh (32 + h.val) b) s).2) := by
    unfold trip.sl.v2588 View.readCov least
    rw [hCl]
    congr 1
    exact (congrArg (fun g : S16x256x128.Idx → Elt F .f32 => fun x => g ((Rect.unit (s := S16x256x128) ![0, 0, 0] S16x256x128.size
      inb_S16x256x128_S16x256x128_0_0_0).toLoadRect.idx x)) (read_pieces (Memref.whole cc0_scratch1).view _ _)).trans (full_read _)
  have hWa : ∀ P : Fin 16 → Vec F S1x256x128 .f32, (Memref.whole cc0_scratch0).view.writes (Elt F) fa (pieces P) = glue P :=
    fun P => read_pieces (Memref.whole cc0_scratch0).view fa P
  have hWc : ∀ P : Fin 16 → Vec F S1x256x128 .f32, (Memref.whole cc0_scratch1).view.writes (Elt F) fc (pieces P) = glue P :=
    fun P => read_pieces (Memref.whole cc0_scratch1).view fc P
  rw [hx, show trip.sl.v2587 j = Scalar.subi j 1#32 from rfl]
  iapply hcall
  isplitr [HR]; swap; · iexact HR
  isplitl [H0]; · iexact H0
  isplitl [H6]; · iexact H6
  isplitl [Ha]
  · rw [← hWa, ← hAl]
    iexact Ha
  isplitl [Hc]
  · rw [← hWc, ← hCl]
    iexact Hc
  isplitl [Hkb]; · iexists _; iexact Hkb
  isplitl [Hvb]; · iexists _; iexact Hvb
  isplitl [T15 T16 T17 T18 T19 T20 T21 T22 T23 T24 T25 T26 T27 T28 T29 T30 T31 T32 T33 T34 T35 T36 T37 T38 T39 T40 T41 T42 T43 T44 T45 T46]
  · isplitl [T15]; · iexact T15
    isplitl [T16]; · iexact T16
    isplitl [T17]; · iexact T17
    isplitl [T18]; · iexact T18
    isplitl [T19]; · iexact T19
    isplitl [T20]; · iexact T20
    isplitl [T21]; · iexact T21
    isplitl [T22]; · iexact T22
    isplitl [T23]; · iexact T23
    isplitl [T24]; · iexact T24
    isplitl [T25]; · iexact T25
    isplitl [T26]; · iexact T26
    isplitl [T27]; · iexact T27
    isplitl [T28]; · iexact T28
    isplitl [T29]; · iexact T29
    isplitl [T30]; · iexact T30
    isplitl [T31]; · iexact T31
    isplitl [T32]; · iexact T32
    isplitl [T33]; · iexact T33
    isplitl [T34]; · iexact T34
    isplitl [T35]; · iexact T35
    isplitl [T36]; · iexact T36
    isplitl [T37]; · iexact T37
    isplitl [T38]; · iexact T38
    isplitl [T39]; · iexact T39
    isplitl [T40]; · iexact T40
    isplitl [T41]; · iexact T41
    isplitl [T42]; · iexact T42
    isplitl [T43]; · iexact T43
    isplitl [T44]; · iexact T44
    isplitl [T45]; · iexact T45
    iexact T46
  isplitl [S15 S16 S17 S18 S19 S20 S21 S22 S23 S24 S25 S26 S27 S28 S29 S30 S31 S32 S33 S34 S35 S36 S37 S38 S39 S40 S41 S42 S43 S44 S45 S46]
  · isplitl [S15]; · iexact S15
    isplitl [S16]; · iexact S16
    isplitl [S17]; · iexact S17
    isplitl [S18]; · iexact S18
    isplitl [S19]; · iexact S19
    isplitl [S20]; · iexact S20
    isplitl [S21]; · iexact S21
    isplitl [S22]; · iexact S22
    isplitl [S23]; · iexact S23
    isplitl [S24]; · iexact S24
    isplitl [S25]; · iexact S25
    isplitl [S26]; · iexact S26
    isplitl [S27]; · iexact S27
    isplitl [S28]; · iexact S28
    isplitl [S29]; · iexact S29
    isplitl [S30]; · iexact S30
    isplitl [S31]; · iexact S31
    isplitl [S32]; · iexact S32
    isplitl [S33]; · iexact S33
    isplitl [S34]; · iexact S34
    isplitl [S35]; · iexact S35
    isplitl [S36]; · iexact S36
    isplitl [S37]; · iexact S37
    isplitl [S38]; · iexact S38
    isplitl [S39]; · iexact S39
    isplitl [S40]; · iexact S40
    isplitl [S41]; · iexact S41
    isplitl [S42]; · iexact S42
    isplitl [S43]; · iexact S43
    isplitl [S44]; · iexact S44
    isplitl [S45]; · iexact S45
    iexact S46
  iexists _; iexact HO

end Cert.Proof.K

end
-- ==== Proof.K.Loop.lean ====
module

public import proofs.«01_k».proof.Proof.K.Trip

/-! # The loop over the earlier blocks

The loop is a label that calls itself. Its specification with `n` blocks to go (`spec`) takes what the loop holds at a state
and gives it back at the state `loopS` computes; the label's body meets it by induction on `n`. -/

@[expose] public section

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

theorem blockWord : ∀ b : Fin 62, BlockWord (BitVec.ofNat 32 b.val) b.val := by
  intro b
  refine ⟨b.isLt, ?_, ?_, ?_⟩
  · revert b; decide
  · revert b; decide
  · revert b; decide

theorem pred_word : ∀ b : Fin 62, Scalar.subi (BitVec.ofNat 32 b.val) 1#32 = BitVec.ofNat 32 b.val - 1#32 := fun _ => rfl

/-- The word the loop holds with `n` blocks to go: `n - 1`, and any negative word when none is left. -/
def Word (n : ℕ) (j : BitVec 32) : Prop :=
  (n = 0 ∧ Scalar.cmpi .sge j 0#32 ≠ 1#1) ∨ (n ≤ 62 ∧ ∃ b, n = b + 1 ∧ j = BitVec.ofNat 32 b)

theorem word_pred {n : ℕ} (hn : n < 62) : Word n (Scalar.subi (BitVec.ofNat 32 n) 1#32) := by
  cases n with
  | zero => exact .inl ⟨rfl, by decide⟩
  | succ b => exact .inr ⟨by omega, b, rfl, by
      have : ∀ b : Fin 62, Scalar.subi (BitVec.ofNat 32 (b.val + 1)) 1#32 = BitVec.ofNat 32 b.val := by decide
      exact this ⟨b, by omega⟩⟩

variable (c : Dev nD) (i : grid0.Coords) (q : PosShare TreeShare)
    (M0 : Memref sig .tc .vmem S16x256x128 .bf16) (h0 : M0.IsWhole) (M6 : Memref sig .tc .vmem S256x256 .bf16) (h6 : M6.IsWhole)
    (f0 : Bf (F := F) c M0) (f6 : Bf (F := F) c M6) (fh : Bf (F := F) c (Memref.whole main_arg0))

/-- The state with `n` blocks to go, run to the end. -/
abbrev endS (n : ℕ) (s : St F) : St F :=
  loopS (square c M6 f6) (tiles c M0 f0) (fun b h => plane fh (16 + h.val) b) (fun b h => plane fh (32 + h.val) b) n s

/-- The loop's specification with `n` blocks to go. -/
def spec (n : ℕ) (s : St F) : sWPT 𝕄 (BitVec 32 × F .f32) := do
  sWPT.consume (held c q M0 M6 f0 f6 fh s)
  let r ← sWPT.arbitrary
  sWPT.produce (held c q M0 M6 f0 f6 fh (endS c M0 M6 f0 f6 fh n s))
  pure r

theorem spec_apply (n : ℕ) (s : St F) (K : BitVec 32 × F .f32 → sProp 𝕄) :
    spec c q M0 M6 f0 f6 fh n s K
      = iprop(held c q M0 M6 f0 f6 fh s ∗ ∀ r : BitVec 32 × F .f32, (held c q M0 M6 f0 f6 fh (endS c M0 M6 f0 f6 fh n s) -∗ K r)) := rfl

/-- The test fails: the loop returns at once. -/
theorem stop (v : Option Variants.nat.V) (j : BitVec 32) (x : F .f32) (P : sProp 𝕄) (K : BitVec 32 × F .f32 → sProp 𝕄)
    (hcond : ¬ Scalar.andi (Scalar.cmpi .sge j 0#32) (Scalar.cmpf .olt x (Named.named κ "no_underflow" 0x43170000#32)) = 1#1) :
    iprop(P ∗ ∀ r : BitVec 32 × F .f32, (P -∗ K r))
      ⊢ wp frame (wpE (defs₀ (F := F)) Variants.nat c v) Set.univ (whileP i M0 h0 M6 h6 j x) K := by
  unfold whileP
  rw [cc0_while1_eq_skeleton]; unfold cc0_while1_skel
  simp only [hcond, ↓reduceIte, Prog.pure_eq_ret]
  iintro ⟨H, Hk⟩
  rw [wp_ret]; imodintro
  iapply Hk; iexact H

theorem and_one (a b : BitVec 1) : Scalar.andi a b = 1#1 ↔ a = 1#1 ∧ b = 1#1 := by revert a b; decide

theorem spec_le : ∀ (n : ℕ) (j : BitVec 32), Word n j → ∀ (s : St F) (K : BitVec 32 × F .f32 → sProp 𝕄),
    spec c q M0 M6 f0 f6 fh n s K
      ⊢ wp frame (wpE (defs₀ (F := F)) Variants.nat c (some n)) Set.univ (whileP i M0 h0 M6 h6 j (least (glue s.2))) K := by
  intro n
  induction n with
  | zero =>
    intro j hj s K
    rw [spec_apply]
    refine stop c i M0 h0 M6 h6 _ j _ _ K ?_
    rw [and_one]
    rcases hj with ⟨-, h⟩ | ⟨-, b, h, -⟩
    · exact fun h' => h h'.1
    · omega
  | succ n ih =>
    intro j hj s K
    rw [spec_apply]
    rcases hj with ⟨h, -⟩ | ⟨hn, b, hb, rfl⟩
    · omega
    obtain rfl : n = b := by omega
    have hw : BlockWord (BitVec.ofNat 32 n) n := blockWord ⟨n, by omega⟩
    by_cases ha : again s.2
    · have hk : Scalar.andi (Scalar.cmpi .sge (BitVec.ofNat 32 n) 0#32)
          (Scalar.cmpf .olt (least (glue s.2)) (Named.named κ "no_underflow" 0x43170000#32)) = 1#1 := (and_one _ _).mpr ⟨hw.ge, ha⟩
      have hend : endS c M0 M6 f0 f6 fh (n + 1) s = endS c M0 M6 f0 f6 fh n (stepS (square c M6 f6) (tiles c M0 f0)
          (fun h => plane fh (16 + h.val) n) (fun h => plane fh (32 + h.val) n) s) := by
        unfold endS; rw [loopS, if_pos ha]
      rw [hend]
      iintro ⟨⟨H0, H6, Ha, Hc, ⟨%fk, Hkb⟩, ⟨%fv, Hvb⟩, HT, HS, ⟨%W, HO⟩⟩, Hk⟩
      iapply (trip c (some (n + 1)) i q M0 h0 M6 h6 f0 f6 fh _ _ fk fv W _ hw.chk _ hk K s n hw rfl rfl
        iprop(∀ r : BitVec 32 × F .f32, (held c q M0 M6 f0 f6 fh (endS c M0 M6 f0 f6 fh n (stepS (square c M6 f6) (tiles c M0 f0)
          (fun h => plane fh (16 + h.val) n) (fun h => plane fh (32 + h.val) n) s)) -∗ K r)) ?_)
      · refine BIBase.Entails.trans ?_ (wp_call_spec Variants.nat (c : Thread nD τ) (some (n + 1)) Set.univ (spec c q M0 M6 f0 f6 fh n _) n
          (fun u hu => by cases hu; exact Nat.lt_succ_self n) (ih _ (word_pred (n := n) (by omega)) _))
        rw [spec_apply]
        iintro ⟨H, Hk⟩
        isplitl [H]; · iexact H
        iintro %r H
        rw [wp_ret]; imodintro
        iapply Hk; iexact H
      · isplitl [H0]; · iexact H0
        isplitl [H6]; · iexact H6
        isplitl [Ha]; · iexact Ha
        isplitl [Hc]; · iexact Hc
        isplitl [Hkb]; · iexact Hkb
        isplitl [Hvb]; · iexact Hvb
        isplitl [HT]; · iexact HT
        isplitl [HS]; · iexact HS
        isplitl [HO]; · iexact HO
        iexact Hk
    · unfold endS; rw [loopS, if_neg ha]
      refine stop c i M0 h0 M6 h6 _ _ _ _ K ?_
      rw [and_one]; exact fun h => ha h.2

end Cert.Proof.K

end
-- ==== Proof.K.Cols.lean ====
module

public import proofs.«01_k».proof.Proof.K.Rows

/-! # The output block, held tile by tile -/

@[expose] public section

noncomputable section

namespace Cert.Proof.K

open Idealize.ShloMosaic

variable {sig : RefSig} {κ : Kind} {sp : Space} {e : EltTy} {Val : EltTy → Type}

/-- Sixteen tiles side by side. -/
abbrev Os : Shape := ⟨2, ![256, 2048]⟩

theorem inbO (h : Fin 16) : ∀ a, (![0, 128 * h.val] : Fin 2 → ℕ) a + Tt.size a ≤ Os.size a := by
  intro a; have := h.isLt; fin_cases a <;> simp [Shape.size] <;> omega

/-- Tile `h`'s rectangle. -/
abbrev rO (h : Fin 16) : Rect Os := Rect.unit (s := Os) ![0, 128 * h.val] Tt.size (inbO h)

/-- The tile of a column, and the index within it. -/
def tileO (y : Os.Idx) : Fin 16 := ⟨(y 1).val / 128, by have h : (y 1).val < 2048 := (y 1).isLt; omega⟩
def inO (y : Os.Idx) : Tt.Idx := fun a => match a with
  | ⟨0, _⟩ => y 0
  | ⟨1, _⟩ => (⟨(y 1).val % 128, Nat.mod_lt _ (by decide)⟩ : Fin 128)

/-- The block with tile `P h` at columns `128 h` on. -/
def glueO {α : Type} (P : Fin 16 → Tt.Idx → α) : Os.Idx → α := fun y => P (tileO y) (inO y)

theorem glueO_emb {α : Type} (P : Fin 16 → Tt.Idx → α) (h : Fin 16) (x : Tt.Idx) : glueO P ((rO h).emb x) = P h x := by
  have hx : (x 1).val < 128 := (x 1).isLt
  have e1 : ((rO h).emb x 1).val = 128 * h.val + 1 * (x 1).val := rfl
  have e0 : ((rO h).emb x 0).val = 0 + 1 * (x 0).val := rfl
  have ht : tileO ((rO h).emb x) = h := by
    apply Fin.ext; show ((rO h).emb x 1).val / 128 = h.val; rw [e1]; omega
  have hi : inO ((rO h).emb x) = x := by
    funext a; apply Fin.ext
    fin_cases a
    · show ((rO h).emb x 0).val = (x 0).val; rw [e0]; omega
    · show ((rO h).emb x 1).val % 128 = (x 1).val; rw [e1]; omega
  unfold glueO; rw [ht, hi]

theorem mem_rO (y : Os.Idx) : y ∈ (rO (tileO y)).set := by
  rw [Rect.mem_set_unit]
  intro a
  have h1 : (y 1).val < 2048 := (y 1).isLt
  have h0 : (y 0).val < 256 := (y 0).isLt
  fin_cases a
  · exact ⟨Nat.zero_le _, by show (y 0).val < 0 + 256; omega⟩
  · exact ⟨by show 128 * ((y 1).val / 128) ≤ (y 1).val; omega, by show (y 1).val < 128 * ((y 1).val / 128) + 128; omega⟩

/-- The sixteen stores of the output tiles. -/
abbrev piecesO (P : Fin 16 → Tt.Idx → Val e) : List (View.Piece Val Os e) := heads.map fun h => ⟨rO h, P h⟩

theorem read_piecesO (v : View sig κ sp Os e) (f : v.ty.Contents Val) (P : Fin 16 → Tt.Idx → Val e) :
    v.read Val (v.writes Val f (piecesO P)) = glueO P := by
  funext y
  refine View.read_writes_apply_of_pieces v f (glueO P) (piecesO P) ?_ y ?_
  · intro p hp x
    obtain ⟨h, -, rfl⟩ := List.mem_map.mp hp
    exact (glueO_emb P h x).symm
  · refine ⟨⟨rO (tileO y), P (tileO y)⟩, List.mem_map.mpr ⟨tileO y, ?_, rfl⟩, mem_rO y⟩
    have : ∀ h : Fin 16, h ∈ heads := by decide
    exact this _

end Cert.Proof.K

end
-- ==== Proof.K.Body.lean ====
module

public import proofs.«01_k».proof.Proof.K.Loop
public import proofs.«01_k».proof.Proof.K.Cols

/-! # The kernel's body at one grid step -/

@[expose] public section

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

/-- The grid step as the word the body reads. -/
abbrev stepW (i : grid0.Coords) : BitVec 32 := BitVec.ofNat 32 (i 0).val

theorem word_first (i : grid0.Coords) : Word ((i 0).val - 1) (Scalar.subi (stepW i) 2#32) := by
  have h : ∀ b : Fin 64, (b.val - 1 = 0 ∧ Scalar.cmpi .sge (Scalar.subi (BitVec.ofNat 32 b.val) 2#32) 0#32 ≠ 1#1)
      ∨ (b.val - 1 = b.val - 2 + 1 ∧ Scalar.subi (BitVec.ofNat 32 b.val) 2#32 = BitVec.ofNat 32 (b.val - 2)) := by decide
  rcases h (i 0) with h | ⟨h, h'⟩
  · exact .inl h
  · have hi : (i 0).val < 64 := (i 0).isLt
    exact .inr ⟨by omega, _, h, h'⟩

/-- The state the diagonal and the previous block leave. -/
abbrev firstS (c : Dev nD) (i : grid0.Coords) (M0 M1 M2 M3 M4 : Memref sig .tc .vmem S16x256x128 .bf16) (M6 : Memref sig .tc .vmem S256x256 .bf16)
    (f0 : Bf (F := F) c M0) (f1 : Bf (F := F) c M1) (f2 : Bf (F := F) c M2) (f3 : Bf (F := F) c M3) (f4 : Bf (F := F) c M4)
    (f6 : Bf (F := F) c M6) : St F :=
  (initA (stepW i) (square c M6 f6) (tiles c M0 f0) (tiles c M1 f1) (tiles c M2 f2) (tiles c M3 f3) (tiles c M4 f4),
   initC (square c M6 f6) (tiles c M0 f0) (tiles c M1 f1) (tiles c M2 f2))

set_option maxRecDepth 65536 in
set_option maxHeartbeats 8000000 in
/-- The body: the state after the loop, gated, in the output block. -/
theorem body (c : Dev nD) (i : grid0.Coords) (q : PosShare TreeShare)
    (M0 : Memref sig .tc .vmem S16x256x128 .bf16) (h0 : M0.IsWhole) (f0 : Bf (F := F) c M0)
    (M1 : Memref sig .tc .vmem S16x256x128 .bf16) (h1 : M1.IsWhole) (f1 : Bf (F := F) c M1)
    (M2 : Memref sig .tc .vmem S16x256x128 .bf16) (h2 : M2.IsWhole) (f2 : Bf (F := F) c M2)
    (M3 : Memref sig .tc .vmem S16x256x128 .bf16) (h3 : M3.IsWhole) (f3 : Bf (F := F) c M3)
    (M4 : Memref sig .tc .vmem S16x256x128 .bf16) (h4 : M4.IsWhole) (f4 : Bf (F := F) c M4)
    (M5 : Memref sig .tc .vmem S16x256x128 .bf16) (h5 : M5.IsWhole) (f5 : Bf (F := F) c M5)
    (M6 : Memref sig .tc .vmem S256x256 .bf16) (h6 : M6.IsWhole) (f6 : Bf (F := F) c M6)
    (M7 : Memref sig .tc .vmem S256x2048 .bf16) (h7 : M7.IsWhole) (f7 : Bf (F := F) c M7)
    (fh : Bf (F := F) c (Memref.whole main_arg0))
    (fa : Bf (F := F) c (Memref.whole cc0_scratch0)) (fc : Bf (F := F) c (Memref.whole cc0_scratch1))
    (fk : Bf (F := F) c (Memref.whole cc0_scratch2)) (fv : Bf (F := F) c (Memref.whole cc0_scratch3))
    (W : Waits sig Unit) (Q : PUnit → sProp 𝕄) (R : sProp 𝕄) (S : St F)
    (hS : S = endS c M0 M6 f0 f6 fh ((i 0).val - 1) (firstS c i M0 M1 M2 M3 M4 M6 f0 f1 f2 f3 f4 f6))
    (hret : iprop((pt c M1 f1 ∗ pt c M2 f2 ∗ pt c M3 f3 ∗ pt c M4 f4 ∗ pt c M5 f5
        ∗ pt c M7 (M7.view.writes (Elt F) f7 (piecesO fun h => outT (S.1 h) (tiles c M5 f5 h))) ∗ held c q M0 M6 f0 f6 fh S) ∗ R)
      ⊢ Q PUnit.unit) :
    iprop(pt c M0 f0 ∗ pt c M1 f1 ∗ pt c M2 f2 ∗ pt c M3 f3 ∗ pt c M4 f4 ∗ pt c M5 f5 ∗ pt c M6 f6 ∗ pt c M7 f7
      ∗ pt c (Memref.whole cc0_scratch0) fa ∗ pt c (Memref.whole cc0_scratch1) fc ∗ pt c (Memref.whole cc0_scratch2) fk
      ∗ pt c (Memref.whole cc0_scratch3) fv ∗ toks c q fh ∗ sems0 c ∗ owes (c : Thread nD τ) 0 W ∗ R)
    ⊢ wp frame (wpE (defs₀ (F := F)) Variants.nat c none) Set.univ
        (cc0_stick_breaking i M0 h0 M1 h1 M2 h2 M3 h3 M4 h4 M5 h5 M6 h6 (Memref.whole main_arg0) (Memref.isWhole_whole _) M7 h7
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4) Q := by
  rw [cc0_stick_breaking_eq_skeleton]; unfold cc0_stick_breaking_skel
  iintro ⟨H0, H1, H2, H3, H4, H5, H6, H7, Ha, Hc, Hkb, Hvb,
    ⟨T15, T16, T17, T18, T19, T20, T21, T22, T23, T24, T25, T26, T27, T28, T29, T30, T31, T32, T33, T34, T35, T36, T37, T38, T39, T40, T41, T42, T43, T44, T45, T46⟩,
    ⟨S15, S16, S17, S18, S19, S20, S21, S22, S23, S24, S25, S26, S27, S28, S29, S30, S31, S32, S33, S34, S35, S36, S37, S38, S39, S40, S41, S42, S43, S44, S45, S46⟩, HO, HR⟩
  set_option sl_exec.dmaWindow true in sl_exec_parts (disch := assumption)
  have hCl : body.sl.Hc_16 c M0 f0 M1 f1 M2 f2 M6 f6 = pieces (firstS c i M0 M1 M2 M3 M4 M6 f0 f1 f2 f3 f4 f6).2 := by rfl
  have hAl : ((⟨Rect.unit ![15, 0, 0] S1x256x128.size inb_S16x256x128_S1x256x128_15_0_0,
      body.sl.v1167 c i M0 f0 M1 f1 M2 f2 M3 f3 M4 f4 M6 f6⟩ : View.Piece (Elt F) S16x256x128 .f32)
      :: body.sl.Ha_15 c i M0 f0 M1 f1 M2 f2 M3 f3 M4 f4 M6 f6) = pieces (firstS c i M0 M1 M2 M3 M4 M6 f0 f1 f2 f3 f4 f6).1 := by rfl
  have hx : body.sl.v1177 c M0 f0 M1 f1 M2 f2 M6 f6 = least (glue (firstS c i M0 M1 M2 M3 M4 M6 f0 f1 f2 f3 f4 f6).2) := by
    have e : body.sl.v1177 c M0 f0 M1 f1 M2 f2 M6 f6
        = least ((Memref.whole cc0_scratch1).view.readCov (body.sl.Hc_16 c M0 f0 M1 f1 M2 f2 M6 f6)
          (Rect.unit (s := S16x256x128) ![0, 0, 0] S16x256x128.size inb_S16x256x128_S16x256x128_0_0_0).toLoadRect) := rfl
    rw [e, hCl]
    unfold View.readCov
    refine congrArg least ?_
    exact (congrArg (fun g : S16x256x128.Idx → Elt F .f32 => fun x => g ((Rect.unit (s := S16x256x128) ![0, 0, 0] S16x256x128.size
      inb_S16x256x128_S16x256x128_0_0_0).toLoadRect.idx x)) (read_pieces (Memref.whole cc0_scratch1).view _ _)).trans (full_read _)
  have hWa : ∀ P : Fin 16 → Vec F S1x256x128 .f32, (Memref.whole cc0_scratch0).view.writes (Elt F) fa (pieces P) = glue P :=
    fun P => read_pieces (Memref.whole cc0_scratch0).view fa P
  have hWc : ∀ P : Fin 16 → Vec F S1x256x128 .f32, (Memref.whole cc0_scratch1).view.writes (Elt F) fc (pieces P) = glue P :=
    fun P => read_pieces (Memref.whole cc0_scratch1).view fc P
  rw [hx, show body.sl.v1172 i = Scalar.subi (stepW i) 2#32 from rfl]
  iapply (wp_call_spec Variants.nat (c : Thread nD τ) none Set.univ
    (spec c q M0 M6 f0 f6 fh ((i 0).val - 1) (firstS c i M0 M1 M2 M3 M4 M6 f0 f1 f2 f3 f4 f6)) ((i 0).val - 1)
    (fun u hu => nomatch hu) (spec_le c i q M0 h0 M6 h6 f0 f6 fh _ _ (word_first i) _))
  rw [spec_apply, ← hS]
  isplitl [H0 H6 Ha Hc Hkb Hvb T15 T16 T17 T18 T19 T20 T21 T22 T23 T24 T25 T26 T27 T28 T29 T30 T31 T32 T33 T34 T35 T36 T37 T38 T39 T40 T41 T42 T43 T44 T45 T46 S15 S16 S17 S18 S19 S20 S21 S22 S23 S24 S25 S26 S27 S28 S29 S30 S31 S32 S33 S34 S35 S36 S37 S38 S39 S40 S41 S42 S43 S44 S45 S46 HO]
  · isplitl [H0]; · iexact H0
    isplitl [H6]; · iexact H6
    isplitl [Ha]
    · rw [← hWa, ← hAl]
      iexact Ha
    isplitl [Hc]
    · rw [← hWc, ← hCl]
      iexact Hc
    isplitl [Hkb]; · iexists _; iexact Hkb
    isplitl [Hvb]; · iexists _; iexact Hvb
    isplitl [T15 T16 T17 T18 T19 T20 T21 T22 T23 T24 T25 T26 T27 T28 T29 T30 T31 T32 T33 T34 T35 T36 T37 T38 T39 T40 T41 T42 T43 T44 T45 T46]
    · isplitl [T15]; · iexact T15
      isplitl [T16]; · iexact T16
      isplitl [T17]; · iexact T17
      isplitl [T18]; · iexact T18
      isplitl [T19]; · iexact T19
      isplitl [T20]; · iexact T20
      isplitl [T21]; · iexact T21
      isplitl [T22]; · iexact T22
      isplitl [T23]; · iexact T23
      isplitl [T24]; · iexact T24
      isplitl [T25]; · iexact T25
      isplitl [T26]; · iexact T26
      isplitl [T27]; · iexact T27
      isplitl [T28]; · iexact T28
      isplitl [T29]; · iexact T29
      isplitl [T30]; · iexact T30
      isplitl [T31]; · iexact T31
      isplitl [T32]; · iexact T32
      isplitl [T33]; · iexact T33
      isplitl [T34]; · iexact T34
      isplitl [T35]; · iexact T35
      isplitl [T36]; · iexact T36
      isplitl [T37]; · iexact T37
      isplitl [T38]; · iexact T38
      isplitl [T39]; · iexact T39
      isplitl [T40]; · iexact T40
      isplitl [T41]; · iexact T41
      isplitl [T42]; · iexact T42
      isplitl [T43]; · iexact T43
      isplitl [T44]; · iexact T44
      isplitl [T45]; · iexact T45
      iexact T46
    isplitl [S15 S16 S17 S18 S19 S20 S21 S22 S23 S24 S25 S26 S27 S28 S29 S30 S31 S32 S33 S34 S35 S36 S37 S38 S39 S40 S41 S42 S43 S44 S45 S46]
    · isplitl [S15]; · iexact S15
      isplitl [S16]; · iexact S16
      isplitl [S17]; · iexact S17
      isplitl [S18]; · iexact S18
      isplitl [S19]; · iexact S19
      isplitl [S20]; · iexact S20
      isplitl [S21]; · iexact S21
      isplitl [S22]; · iexact S22
      isplitl [S23]; · iexact S23
      isplitl [S24]; · iexact S24
      isplitl [S25]; · iexact S25
      isplitl [S26]; · iexact S26
      isplitl [S27]; · iexact S27
      isplitl [S28]; · iexact S28
      isplitl [S29]; · iexact S29
      isplitl [S30]; · iexact S30
      isplitl [S31]; · iexact S31
      isplitl [S32]; · iexact S32
      isplitl [S33]; · iexact S33
      isplitl [S34]; · iexact S34
      isplitl [S35]; · iexact S35
      isplitl [S36]; · iexact S36
      isplitl [S37]; · iexact S37
      isplitl [S38]; · iexact S38
      isplitl [S39]; · iexact S39
      isplitl [S40]; · iexact S40
      isplitl [S41]; · iexact S41
      isplitl [S42]; · iexact S42
      isplitl [S43]; · iexact S43
      isplitl [S44]; · iexact S44
      isplitl [S45]; · iexact S45
      iexact S46
    iexists _; iexact HO
  iintro %r ⟨H0, H6, Ha, Hc, Hkb, Hvb, HT, HS, HO⟩
  sl_exec_parts (disch := assumption)
  have hO : (fun h : Fin 16 => outT ((Memref.whole cc0_scratch0).view.readAt (Elt F) (rH h).toLoadRect (glue S.1)) (tiles c M5 f5 h))
      = fun h => outT (S.1 h) (tiles c M5 f5 h) := by
    funext h
    rw [readAt_glue (Memref.whole cc0_scratch0).view (glue S.1) S.1 rfl h]
  rw [wp_ret]; imodintro
  iapply hret
  isplitr [HR]; swap; · iexact HR
  isplitl [H1]; · iexact H1
  isplitl [H2]; · iexact H2
  isplitl [H3]; · iexact H3
  isplitl [H4]; · iexact H4
  isplitl [H5]; · iexact H5
  isplitl [H7]
  · rw [← hO]
    iexact H7
  isplitl [H0]; · iexact H0
  isplitl [H6]; · iexact H6
  isplitl [Ha]; · iexact Ha
  isplitl [Hc]; · iexact Hc
  isplitl [Hkb]; · iexact Hkb
  isplitl [Hvb]; · iexact Hvb
  isplitl [HT]; · iexact HT
  isplitl [HS]; · iexact HS
  iexact HO

end Cert.Proof.K

end
-- ==== Proof.K.Dats.lean ====
module

public import proofs.«01_k».proof.Proof.K.Body
public import proofs.«01_k».proof.Proof.Gen.KernelIdeal.Launch
public import proofs.«01_k».proof.Proof.Gen.KernelIdeal.Points
public import Idealize.ShloMosaic.Lib.Pipeline.Regions
public import Idealize.ShloMosaic.Lib.Pipeline.FrameBody

/-! # The pipeline's proof data

The projected array stands behind six windows and is also read by the body's own transfers: its full share is dealt as six
read tokens, one per window, and the remainder goes to the body. -/

@[expose] public section

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

open Idealize.ShloMosaic.Pipeline (Dat Cfg Window BodyObligation cellOf)

local notation "𝕄" => MT nD τ sig Unit (Elt F) ℕ (UU nD τ) ℕ

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-- Core `c`'s buffers at launch, and after each stretch of host operations. -/
abbrev V₀ (c : Dev nD) : Valuation τ sig (Elt F) := fun b => (s₀ m ρ).mem ((c : Dev nD), b)
abbrev V₁ (c : Dev nD) : Valuation τ sig (Elt F) := StableHlo.after hostOps0 (V₀ m ρ c)
abbrev V₂ (c : Dev nD) : Valuation τ sig (Elt F) := StableHlo.after hostOps0_1 (V₁ m ρ c)
def V₃ (c : Dev nD) : Valuation τ sig (Elt F) := StableHlo.after hostOps0_2 (V₂ m ρ c)
/-- The buffers when the region is entered. -/
abbrev V (c : Dev nD) (b : Ref sig .tc) : Buf (Elt F) ((c : Thread nD τ).loc b) := V₃ m ρ c b

/-- The tiles of a staged block, and the whole of the triangular operand. -/
def tilesX (X : S16x256x128.Idx → Elt F .bf16) : Fin 16 → Vec F S1x256x128 .bf16 := fun h x => X ((rH h).emb x)

theorem tiles_eq (c : Dev nD) (M : Memref sig .tc .vmem S16x256x128 .bf16) (f : Bf (F := F) c M) :
    tiles c M f = tilesX (M.view.read (Elt F) f) := by
  funext h x; exact View.readAt_apply ..

theorem square_eq (c : Dev nD) (M : Memref sig .tc .vmem S256x256 .bf16) (f : Bf (F := F) c M) :
    square c M f = M.view.read (Elt F) f := by
  funext x
  refine (View.readAt_apply ..).trans ?_
  congr 1; funext a; apply Fin.ext
  fin_cases a
  · show 0 + 1 * (x 0).val = (x 0).val; omega
  · show 0 + 1 * (x 1).val = (x 1).val; omega

/-- The output block of grid step `i`, from the staged blocks and the projected array. -/
def outX (i : grid0.Coords) (Xq Xkd Xkp Xvd Xvp Xg : S16x256x128.Idx → Elt F .bf16) (Xs : S256x256.Idx → Elt F .bf16)
    (fh : S64x16384x128.Idx → Elt F .bf16) : S256x2048.Idx → Elt F .bf16 :=
  glueO fun h => outT ((loopS Xs (tilesX Xq) (fun b h => plane fh (16 + h.val) b) (fun b h => plane fh (32 + h.val) b) ((i 0).val - 1)
    (initA (stepW i) Xs (tilesX Xq) (tilesX Xkd) (tilesX Xkp) (tilesX Xvd) (tilesX Xvp),
     initC Xs (tilesX Xq) (tilesX Xkd) (tilesX Xkp))).1 h) (tilesX Xg h)

/-- Window `w`'s block at point `t`, read off the array as the region finds it. -/
def blkX (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m ρ c (Pipeline.arrRef spec0 w))

/-- The output block of point `t`. -/
def outAt (c : Dev nD) (t : Fin (cfg0 (F := F)).N) : S256x2048.Idx → Elt F .bf16 :=
  outX (grid0.coords t) (blkX m ρ c 0 t) (blkX m ρ c 1 t) (blkX m ρ c 2 t) (blkX m ρ c 3 t) (blkX m ρ c 4 t) (blkX m ρ c 5 t)
    (blkX m ρ c 6 t) (V m ρ c main_arg0)

/-- The body's share of the projected array. -/
abbrev qB : PosShare TreeShare := Transfers.shareDrop fullShare 6

/-- Between points: the scratch at something, the transfer semaphores at zero, the body's share of the projected array. -/
def Φc (c : Dev nD) : sProp 𝕄 :=
  iprop(Pipeline.scopedRest (Ix := Unit) (Name := ℕ) (U := UU nD τ) (Lvl := ℕ) (Val := Elt F) spec0 c ∗ sems0 c
    ∗ ((c : Thread nD τ).loc main_arg0 ↦{qB} V m ρ c main_arg0))

/-- The proof data: arrays as the region finds them; inputs left in place; the output block at every point. -/
def dats (_ : Fin 1) (c : Dev nD) : Dat τ (Elt F) Unit ℕ (UU nD τ) ℕ (cfg0 (F := F)) c where
  A w := V m ρ c (Pipeline.arrRef spec0 w)
  after w t := match w with
    | ⟨0, _⟩ => blkX m ρ c 0 t | ⟨1, _⟩ => blkX m ρ c 1 t | ⟨2, _⟩ => blkX m ρ c 2 t | ⟨3, _⟩ => blkX m ρ c 3 t
    | ⟨4, _⟩ => blkX m ρ c 4 t | ⟨5, _⟩ => blkX m ρ c 5 t | ⟨6, _⟩ => blkX m ρ c 6 t | ⟨7, _⟩ => outAt m ρ c t
  Φ _ := Φc m ρ c
  q w := if w.val < 6 then Transfers.shareTokN fullShare w.val else fullShare
  owed _ := 0

theorem A_eq (c : Dev nD) (w : Fin (cfg0 (F := F)).W) : (dats m ρ 0 c).A w = V m ρ c (Pipeline.arrRef spec0 w) := by
  dsimp only [dats]

theorem after_0 (c : Dev nD) (t : Fin (cfg0 (F := F)).N) : (dats m ρ 0 c).after 0 t = blkX m ρ c 0 t := by
  dsimp only [dats]; rfl
theorem before_0 (c : Dev nD) (t : Fin (cfg0 (F := F)).N) (d) : (dats m ρ 0 c).before 0 t d = blkX m ρ c 0 t :=
  ((dats m ρ 0 c).before_in_eq_fetched 0 rfl (fun _ => rfl) (fun _ _ _ => rfl)
    (fun t => by rw [after_0]; unfold Dat.blockOf blkX; rw [A_eq]; try rfl) t d).trans
    (by unfold Dat.fetched Dat.blockOf blkX; rw [A_eq]; try rfl)
theorem after_1 (c : Dev nD) (t : Fin (cfg0 (F := F)).N) : (dats m ρ 0 c).after 1 t = blkX m ρ c 1 t := by
  dsimp only [dats]; rfl
theorem before_1 (c : Dev nD) (t : Fin (cfg0 (F := F)).N) (d) : (dats m ρ 0 c).before 1 t d = blkX m ρ c 1 t :=
  ((dats m ρ 0 c).before_in_eq_fetched 1 rfl (fun _ => rfl) (fun _ _ _ => rfl)
    (fun t => by rw [after_1]; unfold Dat.blockOf blkX; rw [A_eq]; try rfl) t d).trans
    (by unfold Dat.fetched Dat.blockOf blkX; rw [A_eq]; try rfl)
theorem after_2 (c : Dev nD) (t : Fin (cfg0 (F := F)).N) : (dats m ρ 0 c).after 2 t = blkX m ρ c 2 t := by
  dsimp only [dats]; rfl
theorem before_2 (c : Dev nD) (t : Fin (cfg0 (F := F)).N) (d) : (dats m ρ 0 c).before 2 t d = blkX m ρ c 2 t :=
  ((dats m ρ 0 c).before_in_eq_fetched 2 rfl (fun _ => rfl) (fun _ _ _ => rfl)
    (fun t => by rw [after_2]; unfold Dat.blockOf blkX; rw [A_eq]; try rfl) t d).trans
    (by unfold Dat.fetched Dat.blockOf blkX; rw [A_eq]; try rfl)
theorem after_3 (c : Dev nD) (t : Fin (cfg0 (F := F)).N) : (dats m ρ 0 c).after 3 t = blkX m ρ c 3 t := by
  dsimp only [dats]; rfl
theorem before_3 (c : Dev nD) (t : Fin (cfg0 (F := F)).N) (d) : (dats m ρ 0 c).before 3 t d = blkX m ρ c 3 t :=
  ((dats m ρ 0 c).before_in_eq_fetched 3 rfl (fun _ => rfl) (fun _ _ _ => rfl)
    (fun t => by rw [after_3]; unfold Dat.blockOf blkX; rw [A_eq]; try rfl) t d).trans
    (by unfold Dat.fetched Dat.blockOf blkX; rw [A_eq]; try rfl)
theorem after_4 (c : Dev nD) (t : Fin (cfg0 (F := F)).N) : (dats m ρ 0 c).after 4 t = blkX m ρ c 4 t := by
  dsimp only [dats]; rfl
theorem before_4 (c : Dev nD) (t : Fin (cfg0 (F := F)).N) (d) : (dats m ρ 0 c).before 4 t d = blkX m ρ c 4 t :=
  ((dats m ρ 0 c).before_in_eq_fetched 4 rfl (fun _ => rfl) (fun _ _ _ => rfl)
    (fun t => by rw [after_4]; unfold Dat.blockOf blkX; rw [A_eq]; try rfl) t d).trans
    (by unfold Dat.fetched Dat.blockOf blkX; rw [A_eq]; try rfl)
theorem after_5 (c : Dev nD) (t : Fin (cfg0 (F := F)).N) : (dats m ρ 0 c).after 5 t = blkX m ρ c 5 t := by
  dsimp only [dats]; rfl
theorem before_5 (c : Dev nD) (t : Fin (cfg0 (F := F)).N) (d) : (dats m ρ 0 c).before 5 t d = blkX m ρ c 5 t :=
  ((dats m ρ 0 c).before_in_eq_fetched 5 rfl (fun _ => rfl) (fun _ _ _ => rfl)
    (fun t => by rw [after_5]; unfold Dat.blockOf blkX; rw [A_eq]; try rfl) t d).trans
    (by unfold Dat.fetched Dat.blockOf blkX; rw [A_eq]; try rfl)
theorem after_6 (c : Dev nD) (t : Fin (cfg0 (F := F)).N) : (dats m ρ 0 c).after 6 t = blkX m ρ c 6 t := by
  dsimp only [dats]; rfl
theorem before_6 (c : Dev nD) (t : Fin (cfg0 (F := F)).N) (d) : (dats m ρ 0 c).before 6 t d = blkX m ρ c 6 t :=
  ((dats m ρ 0 c).before_in_eq_fetched 6 rfl (fun _ => rfl) (fun _ _ _ => rfl)
    (fun t => by rw [after_6]; unfold Dat.blockOf blkX; rw [A_eq]; try rfl) t d).trans
    (by unfold Dat.fetched Dat.blockOf blkX; rw [A_eq]; try rfl)
theorem after_7 (c : Dev nD) (t : Fin (cfg0 (F := F)).N) : (dats m ρ 0 c).after 7 t = outAt m ρ c t := by
  dsimp only [dats]; rfl

/-- A whole buffer held on its memref's cells is held whole. -/
theorem set_pt (c : Dev nD) {sp : Space} {S : Shape} {e : EltTy} (M : Memref sig .tc sp S e) (hM : M.IsWhole) (f : Bf (F := F) c M) :
    (M.view.loc (c : Thread nD τ) ↦[M.view.set]{fullShare} f : sProp 𝕄) ⊣⊢ pt c M f := by
  rw [hM.set_eq_univ]

set_option maxHeartbeats 2000000 in
set_option maxRecDepth 65536 in
/-- The 47 tokens the transfers' cells draw on, and what is left of a share after them. -/
theorem toks_split (c : Dev nD) (q : PosShare TreeShare) (f : Bf (F := F) c (Memref.whole main_arg0)) :
    ((c : Thread nD τ).loc main_arg0 ↦{q} f : sProp 𝕄) ⊣⊢ iprop(((c : Thread nD τ).loc main_arg0 ↦{Transfers.shareDrop q 47} f)
      ∗ bigSep (Finset.range 15) (tok c q f) ∗ toks c q f) := by
  have h := Transfers.pointsTo_toks_range (ℓ := (c : Thread nD τ).loc main_arg0) (S := Finset.univ) (f := f) (Ix := Unit) (Name := ℕ)
    (U := UU nD τ) (Lvl := ℕ) q 47
  have e : (bigSep (Finset.range 47) (fun i => ((c : Thread nD τ).loc main_arg0 ↦{Transfers.shareTokN q i} f : sProp 𝕄)))
      = iprop(bigSep (Finset.range 15) (tok c q f) ∗ toks c q f) := by
    rw [show Finset.range 47 = Finset.range 15 ∪ Finset.Ico 15 47 by decide, BI.bigSep_union (by decide)]
    congr 1
    exact bigSep_eq_bigSepL_of_eq [15, 16, 17, 18, 19, 20, 21, 22, 23, 24, 25, 26, 27, 28, 29, 30, 31, 32, 33, 34, 35, 36, 37, 38, 39,
      40, 41, 42, 43, 44, 45, 46] (by decide) (by decide) _
  rw [e] at h
  exact h

set_option maxHeartbeats 4000000 in
set_option maxRecDepth 65536 in
/-- The body obligation: the staged blocks taken apart, `body` applied, its post reassembled. -/
theorem body_obligation (c : Dev nD) : BodyObligation (dats m ρ 0 c) (defs₀ (F := F)) Variants.nat () Set.univ := fun t => by
  rw [bigSep_W0, bigSep_W0]
  sl_whnfR [defs₀, Defs.onTc]
  rw [after_0, after_1, after_2, after_3, after_4, after_5, after_6, after_7]
  rw [show (dats m ρ 0 c).Φ t.castSucc = Φc m ρ c from rfl, show (dats m ρ 0 c).Φ t.succ = Φc m ρ c from rfl]
  unfold Φc Dat.owesAt Pipeline.owesWithin; rw [scopedRest0_eq]
  rw [show (dats m ρ 0 c).owed t.castSucc = 0 from rfl, show (dats m ρ 0 c).owed t.succ = 0 from rfl]
  unfold owns
  iintro ⟨⟨⟨⟨%fa, Ha⟩, ⟨%fc, Hc⟩, ⟨%fk, Hk⟩, ⟨%fv, Hv⟩⟩, Hs, Hh⟩, ⟨%W, %hW, HO⟩, ⟨%d0, %f0, %e0, H0⟩, ⟨%d1, %f1, %e1, H1⟩,
    ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩⟩
  replace e0 := e0.trans (before_0 m ρ c t d0)
  replace e1 := e1.trans (before_1 m ρ c t d1)
  replace e2 := e2.trans (before_2 m ρ c t d2)
  replace e3 := e3.trans (before_3 m ρ c t d3)
  replace e4 := e4.trans (before_4 m ρ c t d4)
  replace e5 := e5.trans (before_5 m ρ c t d5)
  replace e6 := e6.trans (before_6 m ρ c t d6)
  ihave Ht := (toks_split c qB (V m ρ c main_arg0)).1 $$ Hh
  icases Ht with ⟨Hr1, Hr2, Ht⟩
  iapply (body c (grid0.coords t) qB _ (hstage0_0 (((cfg0 (F := F)).slots t 0).cast nbuf0_0)) f0
    _ (hstage0_1 (((cfg0 (F := F)).slots t 1).cast nbuf0_1)) f1 _ (hstage0_2 (((cfg0 (F := F)).slots t 2).cast nbuf0_2)) f2
    _ (hstage0_3 (((cfg0 (F := F)).slots t 3).cast nbuf0_3)) f3 _ (hstage0_4 (((cfg0 (F := F)).slots t 4).cast nbuf0_4)) f4
    _ (hstage0_5 (((cfg0 (F := F)).slots t 5).cast nbuf0_5)) f5 _ (hstage0_6 (((cfg0 (F := F)).slots t 6).cast nbuf0_6)) f6
    _ (hstage0_7 (((cfg0 (F := F)).slots t 7).cast nbuf0_7)) f7 (V m ρ c main_arg0) fa fc fk fv W _
    iprop(((c : Thread nD τ).loc main_arg0 ↦{Transfers.shareDrop qB 47} V m ρ c main_arg0) ∗ bigSep (Finset.range 15) (tok c qB (V m ρ c main_arg0)))
    _ rfl ?_)
  · iintro ⟨⟨H1, H2, H3, H4, H5, H7, H0, H6, Ha, Hc, Hk, Hv, Ht, Hs, HO⟩, Hr1, Hr2⟩
    isplitl [Ha Hc Hk Hv Ht Hs Hr1 Hr2]
    · isplitl [Ha Hc Hk Hv]
      · isplitl [Ha]; · iexists _; iexact Ha
        isplitl [Hc]; · iexists _; iexact Hc
        isplitl [Hk]; · iexact Hk
        iexact Hv
      isplitl [Hs]; · iexact Hs
      iapply (toks_split c qB (V m ρ c main_arg0)).2
      isplitl [Hr1]; · iexact Hr1
      isplitl [Hr2]; · iexact Hr2
      iexact Ht
    isplitl [HO]
    · icases HO with ⟨%W', HO⟩
      iexists W'; isplitr; · (ipureintro; exact fun _ _ => Or.inl trivial)
      iexact HO
    isplitl [H0]
    · iexists _; isplitr; swap; · (iapply (set_pt c _ (hstage0_0 (((cfg0 (F := F)).slots t 0).cast nbuf0_0)) _).2; iexact H0)
      ipureintro; exact e0
    isplitl [H1]
    · iexists _; isplitr; swap; · (iapply (set_pt c _ (hstage0_1 (((cfg0 (F := F)).slots t 1).cast nbuf0_1)) _).2; iexact H1)
      ipureintro; exact e1
    isplitl [H2]
    · iexists _; isplitr; swap; · (iapply (set_pt c _ (hstage0_2 (((cfg0 (F := F)).slots t 2).cast nbuf0_2)) _).2; iexact H2)
      ipureintro; exact e2
    isplitl [H3]
    · iexists _; isplitr; swap; · (iapply (set_pt c _ (hstage0_3 (((cfg0 (F := F)).slots t 3).cast nbuf0_3)) _).2; iexact H3)
      ipureintro; exact e3
    isplitl [H4]
    · iexists _; isplitr; swap; · (iapply (set_pt c _ (hstage0_4 (((cfg0 (F := F)).slots t 4).cast nbuf0_4)) _).2; iexact H4)
      ipureintro; exact e4
    isplitl [H5]
    · iexists _; isplitr; swap; · (iapply (set_pt c _ (hstage0_5 (((cfg0 (F := F)).slots t 5).cast nbuf0_5)) _).2; iexact H5)
      ipureintro; exact e5
    isplitl [H6]
    · iexists _; isplitr; swap; · (iapply (set_pt c _ (hstage0_6 (((cfg0 (F := F)).slots t 6).cast nbuf0_6)) _).2; iexact H6)
      ipureintro; exact e6
    iexists _; isplitr; swap; · (iapply (set_pt c _ (hstage0_7 (((cfg0 (F := F)).slots t 7).cast nbuf0_7)) _).2; iexact H7)
    ipureintro
    refine (read_piecesO (st0_7 t).view f7 _).trans ?_
    unfold outAt outX
    rw [← e0, ← e1, ← e2, ← e3, ← e4, ← e5, ← e6]
    simp only [← tiles_eq, ← square_eq]
    rfl
  · isplitl [H0]; · (iapply (set_pt c _ (hstage0_0 (((cfg0 (F := F)).slots t 0).cast nbuf0_0)) _).1; iexact H0)
    isplitl [H1]; · (iapply (set_pt c _ (hstage0_1 (((cfg0 (F := F)).slots t 1).cast nbuf0_1)) _).1; iexact H1)
    isplitl [H2]; · (iapply (set_pt c _ (hstage0_2 (((cfg0 (F := F)).slots t 2).cast nbuf0_2)) _).1; iexact H2)
    isplitl [H3]; · (iapply (set_pt c _ (hstage0_3 (((cfg0 (F := F)).slots t 3).cast nbuf0_3)) _).1; iexact H3)
    isplitl [H4]; · (iapply (set_pt c _ (hstage0_4 (((cfg0 (F := F)).slots t 4).cast nbuf0_4)) _).1; iexact H4)
    isplitl [H5]; · (iapply (set_pt c _ (hstage0_5 (((cfg0 (F := F)).slots t 5).cast nbuf0_5)) _).1; iexact H5)
    isplitl [H6]; · (iapply (set_pt c _ (hstage0_6 (((cfg0 (F := F)).slots t 6).cast nbuf0_6)) _).1; iexact H6)
    isplitl [H7]; · (iapply (set_pt c _ (hstage0_7 (((cfg0 (F := F)).slots t 7).cast nbuf0_7)) _).1; iexact H7)
    isplitl [Ha]; · iexact Ha
    isplitl [Hc]; · iexact Hc
    isplitl [Hk]; · iexact Hk
    isplitl [Hv]; · iexact Hv
    isplitl [Ht]; · iexact Ht
    isplitl [Hs]; · iexact Hs
    isplitl [HO]; · iexact HO
    isplitl [Hr1]; · iexact Hr1
    iexact Hr2

end Cert.Proof.K

end
-- ==== Proof.K.Run.lean ====
module

public import proofs.«01_k».proof.Proof.K.Dats

/-! # The run of the program

The host builds the triangular operand, then one kernel region runs. Every weakly fair execution terminates, the projected
array ends as launched, the attention's array at the blocks the body leaves, and every semaphore at zero. -/

@[expose] public section

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

open Idealize.ShloMosaic.Pipeline (Dat Cfg Window BodyObligation cellOf)

local notation "𝕄" => MT nD τ sig Unit (Elt F) ℕ (UU nD τ) ℕ

abbrev EP : Emb (UR nD τ) (MT nD τ sig Unit (Elt F) ℕ (UU nD τ) ℕ) := embL

variable (m : (ℓ : Loc nD τ sig) → Buf (Elt F) ℓ) (ρ : Dev nD → PrngReg)

/-- The unscoped references, as device buffers: what the host operations run within. -/
def ucRefs : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-- No host operation writes the projected array. -/
theorem V_arg0 (c : Dev nD) : V m ρ c main_arg0 = m ((c : Thread nD τ).loc main_arg0) := by
  unfold V V₃
  refine (StableHlo.after_of_forall_not_mem (b := Proc.devRef .tc main_arg0) hostOps0_2 (V₂ m ρ c) ?_).trans
    ((StableHlo.after_of_forall_not_mem (b := Proc.devRef .tc main_arg0) hostOps0_1 (V₁ m ρ c) ?_).trans
      (StableHlo.after_of_forall_not_mem (b := Proc.devRef .tc main_arg0) hostOps0 (V₀ m ρ c) ?_))
  all_goals
    intro op hop
    simp only [List.mem_cons, List.mem_nil_iff, or_false] at hop
    rcases hop with rfl | rfl | rfl | rfl | rfl <;>
      simp only [StableHlo.unary_writes, StableHlo.binary_writes, StableHlo.nullary_writes, StableHlo.ternary_writes, Finset.mem_singleton] <;>
      exact StableHlo.devRef_ne_of_ne (by decide)

/-- The kernel's own semaphores: the transfers' cells. -/
abbrev osem : Fin 32 → SemLoc sig := fun k => .dma ⟨15 + k.val, by have := k.isLt; show _ < 47; omega⟩

theorem ownSems0_eq (c : Dev nD) :
    (Pipeline.ownSems0 (Ix := Unit) (Name := ℕ) (U := UU nD τ) (Lvl := ℕ) (Val := Elt F) (τ := τ) osem c : sProp 𝕄) = sems0 c :=
  Pipeline.ownSems0_eq_of_list c osem [0, 1, 2, 3, 4, 5, 6, 7, 8, 9, 10, 11, 12, 13, 14, 15, 16, 17, 18, 19, 20, 21, 22, 23, 24, 25, 26,
    27, 28, 29, 30, 31] (by decide) (by decide)

theorem ownSemFacts : Pipeline.OwnSemFacts spec0 osem := by decide

/-- The launch element: the pipeline's cells and transfers; no counter yet. -/
def u₀ : UU nD τ := (initOf (Pipeline.cells (cfgs (F := F)) cellOf_inj) (Pipeline.launchToks (cfgs (F := F)) cellOf_inj), 1)

abbrev L : GSem nD τ sig → Finset Unit := fun _ => ∅
abbrev lv : GSem nD τ sig → Unit → ℕ := fun _ _ => 0
abbrev adm : (p : Fin 1) → (pcfgs (F := F) p).Adm := fun p => (cfgs p).toPCfg_adm

/-- What rides beside the buffers through the host operations. -/
abbrev R (c : Dev nD) : sProp 𝕄 := iprop(∃ W, owes (c : Thread nD τ) (0 : CellTallies nD τ sig Unit) W)

def seg0 : Pipeline.HostSeg (Name := ℕ) (U := UU nD τ) (pcfgs (F := F)) defs₀ Variants.nat L lv :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (V₀ m ρ) R
def seg1 : Pipeline.HostSeg (Name := ℕ) (U := UU nD τ) (pcfgs (F := F)) defs₀ Variants.nat L lv :=
  Pipeline.HostSeg.ofOps _ _ _ _ _ ucRefs hostOps0_1 (fun op h => sub_ucRefs op ((List.forall_iff_forall_mem.mp hostOps0_1_sub) op h))
    (by intro _ h; (repeat (cases h with | head => rfl | tail _ h => ?_)); exact nomatch h) (V₁ m ρ) R
def seg2 : Pipeline.HostSeg (Name := ℕ) (U := UU nD τ) (pcfgs (F := F)) defs₀ Variants.nat L lv :=
  Pipeline.HostSeg.ofOps _ _ _ _ _ ucRefs hostOps0_2 (fun op h => sub_ucRefs op ((List.forall_iff_forall_mem.mp hostOps0_2_sub) op h))
    (by intro _ h; (repeat (cases h with | head => rfl | tail _ h => ?_)); exact nomatch h) (V₂ m ρ) R

set_option maxRecDepth 65536 in
/-- The projected array in full is six window tokens and the body's share. -/
theorem deal (c : Dev nD) (f : Bf (F := F) c (Memref.whole main_arg0)) :
    ((c : Thread nD τ).loc main_arg0 ↦{fullShare} f : sProp 𝕄) ⊣⊢ iprop(((c : Thread nD τ).loc main_arg0 ↦{qB} f)
      ∗ tok c fullShare f 0 ∗ tok c fullShare f 1 ∗ tok c fullShare f 2 ∗ tok c fullShare f 3 ∗ tok c fullShare f 4 ∗ tok c fullShare f 5) := by
  have h := Transfers.pointsTo_toks_range (ℓ := (c : Thread nD τ).loc main_arg0) (S := Finset.univ) (f := f) (Ix := Unit) (Name := ℕ)
    (U := UU nD τ) (Lvl := ℕ) fullShare 6
  have e : (bigSep (Finset.range 6) (fun i => ((c : Thread nD τ).loc main_arg0 ↦{Transfers.shareTokN fullShare i} f : sProp 𝕄)))
      = iprop(tok c fullShare f 0 ∗ tok c fullShare f 1 ∗ tok c fullShare f 2 ∗ tok c fullShare f 3 ∗ tok c fullShare f 4 ∗ tok c fullShare f 5) :=
    bigSep_eq_bigSepL_of_eq [0, 1, 2, 3, 4, 5] (by decide) (by decide) _
  rw [e] at h
  exact h

/-- The windows' arrays, each whole: the projected array, the triangular operand, the result. -/
theorem arrBufs_eq (c : Dev nD) (W : (b : Ref sig .tc) → Buf (Elt F) ((c : Thread nD τ).loc b)) :
    (Pipeline.arrBufs spec0 c W : sProp 𝕄) = iprop(((c : Thread nD τ).loc main_arg0 ↦{fullShare} W main_arg0)
      ∗ ((c : Thread nD τ).loc main_v4 ↦{fullShare} W main_v4) ∗ ((c : Thread nD τ).loc main_v5 ↦{fullShare} W main_v5)) := by
  unfold Pipeline.arrBufs
  exact bigSep_eq_bigSepL_of_eq [main_arg0, main_v4, main_v5] (by decide) (by decide) _

/-- Each window's share of its array: read tokens of the projected array, the rest whole. -/
theorem arrays_eq (c : Dev nD) (B : (w : Fin (cfg0 (F := F)).W) → Buf (Elt F) (((cfg0 (F := F)).win w).arr.view.loc (c : Thread nD τ))) :
    ((dats m ρ 0 c).arrays B : sProp 𝕄) = iprop(tok c fullShare (B 0) 0 ∗ tok c fullShare (B 1) 1 ∗ tok c fullShare (B 2) 2
      ∗ tok c fullShare (B 3) 3 ∗ tok c fullShare (B 4) 4 ∗ tok c fullShare (B 5) 5 ∗ ((c : Thread nD τ).loc main_v4 ↦{fullShare} B 6)
      ∗ ((c : Thread nD τ).loc main_v5 ↦{fullShare} B 7)) := by
  unfold Dat.arrays
  rw [bigSep_W0]
  have hs := fun w => (arr_whole0 w).set_eq_univ
  refine congrArg₂ _ ?_ (congrArg₂ _ ?_ (congrArg₂ _ ?_ (congrArg₂ _ ?_ (congrArg₂ _ ?_ (congrArg₂ _ ?_ (congrArg₂ _ ?_ ?_))))))
  · exact congrArg (fun S => pointsTo _ S _ _) (hs 0)
  · exact congrArg (fun S => pointsTo _ S _ _) (hs 1)
  · exact congrArg (fun S => pointsTo _ S _ _) (hs 2)
  · exact congrArg (fun S => pointsTo _ S _ _) (hs 3)
  · exact congrArg (fun S => pointsTo _ S _ _) (hs 4)
  · exact congrArg (fun S => pointsTo _ S _ _) (hs 5)
  · exact congrArg (fun S => pointsTo _ S _ _) (hs 6)
  · exact congrArg (fun S => pointsTo _ S _ _) (hs 7)

/-- What the region leaves for the end. -/
abbrev Tₙ (c : Dev nD) : sProp 𝕄 :=
  iprop(((c : Thread nD τ).loc main_arg0 ↦{fullShare} V m ρ c main_arg0) ∗ ((c : Thread nD τ).loc main_v5 ↦{fullShare} (dats m ρ 0 c).arrAt 7 (cfg0 (F := F)).N))

set_option backward.isDefEq.respectTransparency.types false in
def reg0 : Pipeline.RegionSeg (pcfgs (F := F)) adm (dats m ρ) () defs₀ Variants.nat L lv 0 where
  win := winFacts₀0
  block_pos := block_pos0
  stage_whole := stage_whole0
  K := Fin 32
  osem := osem
  ho := ownSemFacts
  hbody c := (body_obligation m ρ c).loose
  hwaits := Pipeline.hwaits_of_owed_zero _ _ _ _ L lv 0 fun _ _ => rfl
  pre c := iprop(StableHlo.held (c : Thread nD τ) ucRefs (V₃ m ρ c) ∗ R c)
  post c := iprop(Tₙ m ρ c ∗ R c)
  X c := iprop(((c : Thread nD τ).loc main_arg0 ↦{qB} V m ρ c main_arg0) ∗ sems0 c)
  Y c := iprop((c : Thread nD τ).loc main_arg0 ↦{qB} V m ρ c main_arg0)
  Z _ := iprop(emp)
  hentry c := by
    rw [show StableHlo.held (c : Thread nD τ) ucRefs (V₃ m ρ c) = unscopedBufs c (V m ρ c) from (unscopedBufs_held c _).symm,
      ownSems0_eq, Pipeline.unscopedBufs_split₀ (Pipeline.pin (pcfgs (F := F)) adm) 0 winFacts₀0.arr_unscoped c (V m ρ c)]
    rw [show ((dats m ρ 0 c).arrays ((dats m ρ 0 c).arrAt · 0) : sProp 𝕄) = _ from arrays_eq m ρ c _]
    iintro ⟨⟨⟨Hub, -⟩, HO⟩, Hos, -⟩
    ihave H := (Entails.of_eq (arrBufs_eq c (V m ρ c))) $$ Hub
    icases H with ⟨H0, H4, H5⟩
    ihave H := (deal c (V m ρ c main_arg0)).1 $$ H0
    icases H with ⟨Hq, K0, K1, K2, K3, K4, K5⟩
    imodintro
    isplitl [K0 K1 K2 K3 K4 K5 H4 H5]
    · isplitl [K0]; · iexact K0
      isplitl [K1]; · iexact K1
      isplitl [K2]; · iexact K2
      isplitl [K3]; · iexact K3
      isplitl [K4]; · iexact K4
      isplitl [K5]; · iexact K5
      isplitl [H4]; · iexact H4
      iexact H5
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hq Hos]
    · isplitl [Hq]; · iexact Hq
      iexact Hos
    iempintro
  hin c := by
    rw [show (dats m ρ 0 c).Φ 0 = Φc m ρ c from rfl]; unfold Φc
    iintro ⟨⟨Hq, Hos⟩, -, Hr⟩
    isplitl [Hr]; · iexact Hr
    isplitl [Hos] <;> iassumption
  hout c := by
    rw [ownSems0_eq, show (dats m ρ 0 c).Φ (Fin.last (cfg0 (F := F)).N) = Φc m ρ c from rfl]; unfold Φc
    iintro ⟨Hr, Hos, Hq⟩
    isplitl [Hq]; · iexact Hq
    isplitl [Hos] <;> iassumption
  hexit c := by
    rw [show ((dats m ρ 0 c).arrays ((dats m ρ 0 c).arrAt · (cfg0 (F := F)).N) : sProp 𝕄) = _ from arrays_eq m ρ c _]
    rw [(dats m ρ 0 c).arrAt_in 0 rfl, (dats m ρ 0 c).arrAt_in 1 rfl, (dats m ρ 0 c).arrAt_in 2 rfl, (dats m ρ 0 c).arrAt_in 3 rfl,
      (dats m ρ 0 c).arrAt_in 4 rfl, (dats m ρ 0 c).arrAt_in 5 rfl]
    iintro ⟨⟨K0, K1, K2, K3, K4, K5, -, H5⟩, HO, Hq, -⟩
    imodintro
    isplitr [HO]
    · isplitr [H5]
      · iapply (deal c (V m ρ c main_arg0)).2
        isplitl [Hq]; · iexact Hq
        isplitl [K0]; · iexact K0
        isplitl [K1]; · iexact K1
        isplitl [K2]; · iexact K2
        isplitl [K3]; · iexact K3
        isplitl [K4]; · iexact K4
        iexact K5
      iexact H5
    · unfold Pipeline.Dat.owesAt Pipeline.owesWithin
      icases HO with ⟨%W, -, HO⟩; iexists W; iexact HO

set_option maxRecDepth 65536 in
/-- Every semaphore of the program is one of a kernel region's. -/
theorem all_scoped : ∀ g : SemLoc sig, g.isScoped .tc = true := by decide

/-- The program's segments: three stretches of host operations, then the region. -/
abbrev segs : List (Pipeline.Seg (pcfgs (F := F)) adm (dats m ρ) () defs₀ Variants.nat L lv) :=
  [.host (seg0 m ρ), .host (seg1 m ρ), .host (seg2 m ρ), .region (reg0 m ρ)]

theorem main_run (c : Dev nD) : main (F := F) c = Pipeline.Seg.run (segs m ρ) := by
  rw [main_chain, Pipeline.Seg.run_eq_chain]; rfl

set_option backward.isDefEq.respectTransparency.types false in
/-- Every weakly fair execution terminates; at the end the attention's array holds the blocks the body left, the projected
array is unchanged, and every semaphore is at zero. -/
theorem run_main : θ_run defs (onTc (τ := τ) (main (F := F))) (s₀ m ρ) (fun r => (∀ c : Dev nD,
      r.2.mem ((c : Thread nD τ).loc main_v5) = (dats m ρ 0 c).arrAt 7 (cfg0 (F := F)).N
      ∧ r.2.mem ((c : Thread nD τ).loc main_arg0) = m ((c : Thread nD τ).loc main_arg0)) ∧ r.2.sem = fun _ => 0) :=
  Pipeline.θ_run_regions_kit_sems (pcfgs (F := F)) adm (dats m ρ) () cellOf_inj EP defs₀ Variants.nat L lv m ρ main (segs m ρ)
    (fun c Q => by rw [main_run m ρ c])
    (by simp only [Pipeline.Seg.pipes_host, Pipeline.Seg.pipes_region, Pipeline.Seg.pipes_nil]; decide) (O₀ := 0) (hL := fun _ _ => rfl) (G := fun _ => iprop(emp)) (u₀ := u₀ (F := F))
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (V₀ m ρ c) from unscopedBufs_held c (V₀ m ρ c)]
      iintro ⟨⟨Hh, -, HO, -, -, -⟩, -⟩
      imodintro
      isplitl [Hh]; · iexact Hh
      iexists ∅; iexact HO)
    (QY := fun c s => s.mem ((c : Thread nD τ).loc main_v5) = (dats m ρ 0 c).arrAt 7 (cfg0 (F := F)).N
      ∧ s.mem ((c : Thread nD τ).loc main_arg0) = m ((c : Thread nD τ).loc main_arg0))
    (hfin := fun c s' => by
      dsimp only [Tₙ]; rw [V_arg0]
      iintro ⟨⟨H0, H5⟩, HSI⟩
      icombine HSI H0 gives %h0
      icombine HSI H5 gives %h5
      imodintro
      isplitr; · ipureintro; exact ⟨Buf.eq_of_forall_mem_univ h5, Buf.eq_of_forall_mem_univ h0⟩
      iexact HSI)
    (hQ := fun _ h hz => ⟨h, funext fun g => hz g (.inr (all_scoped g.2))⟩)

end Cert.Proof.K

end
-- ==== Proof.K.Reals.lean ====
module

public import Idealize.ShloMosaic.Lib.Pointwise
public import Idealize.ShloMosaic.PureOps.Ideal.Laws
public import Mathlib.Analysis.SpecialFunctions.Pow.Real
public import Mathlib.Analysis.SpecialFunctions.Log.Basic

/-! # Stick-breaking attention over the reals

The weights of one query: key `s` before query `t` weighs `2 ^ (z - tail)`, `z` its base-2 score and `tail` the sum of the
base-2 softplus of the scores from `s` up to `t`. Then the scalar facts: what the kernel and the reference compute of a finite
score is the real number these definitions name. -/

@[expose] public section

noncomputable section

namespace Cert.Proof.Val

open Idealize.ShloMosaic
open Finset (Ico)

/-- Base-2 softplus. -/
def sp (z : ℝ) : ℝ := max z 0 + Real.log (1 + (2 : ℝ) ^ (0 - |z|)) * (Real.log 2)⁻¹

/-- The base-2 score of key `s` for query `t`. -/
def zz (q k : ℕ → Fin 128 → ℝ) (t s : ℕ) : ℝ := ∑ d, q t d * k s d

/-- What the keys from `s` up to the query took of the stick, in base-2 logarithms. -/
def tl (q k : ℕ → Fin 128 → ℝ) (t s : ℕ) : ℝ := ∑ j ∈ Ico s t, sp (zz q k t j)

/-- The weight of a key. -/
def wt (q k : ℕ → Fin 128 → ℝ) (t s : ℕ) : ℝ := (2 : ℝ) ^ (zz q k t s - tl q k t s)

/-- The weighted values of the keys from `b` up to the query. -/
def acc (q k v : ℕ → Fin 128 → ℝ) (t b : ℕ) (e : Fin 128) : ℝ := ∑ s ∈ Ico b t, wt q k t s * v s e

/-- The gate. -/
def gate (x : ℝ) : ℝ := x * (1 / (1 + Real.exp (-x)))

theorem acc_split (q k v : ℕ → Fin 128 → ℝ) (t b c : ℕ) (e : Fin 128) (hb : b ≤ c) (hc : c ≤ t) :
    acc q k v t b e = acc q k v t c e + ∑ s ∈ Ico b c, wt q k t s * v s e := by
  unfold acc
  rw [add_comm, Finset.sum_Ico_consecutive _ hb hc]

theorem tl_split (q k : ℕ → Fin 128 → ℝ) (t b c : ℕ) (hb : b ≤ c) (hc : c ≤ t) :
    tl q k t b = tl q k t c + ∑ s ∈ Ico b c, sp (zz q k t s) := by
  unfold tl
  rw [add_comm, Finset.sum_Ico_consecutive _ hb hc]

/-! ## Sums -/

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A block's sum by position, as a sum over its rows. -/
theorem sum_block (n b : ℕ) (f : ℕ → ℝ) : ∑ c : Fin n, f (n * b + c.val) = ∑ j ∈ Ico (n * b) (n * (b + 1)), f j := by
  rw [Fin.sum_univ_eq_sum_range (fun c => f (n * b + c)) n, Finset.sum_Ico_eq_sum_range]
  congr 1
  rw [show n * (b + 1) - n * b = n by rw [Nat.mul_add, Nat.mul_one]; omega]

/-- A masked sum over a stretch, as the sum over the part of the stretch the mask keeps. -/
theorem sum_below (a B t : ℕ) (f : ℕ → ℝ) (h : t ≤ B) : ∑ j ∈ Ico a B, (if j < t then f j else 0) = ∑ j ∈ Ico a t, f j := by
  rw [← Finset.sum_filter]
  refine Finset.sum_congr ?_ fun _ _ => rfl
  ext j; simp only [Finset.mem_filter, Finset.mem_Ico]; omega

theorem sum_above (a A B : ℕ) (f : ℕ → ℝ) (h : a ≤ A) : ∑ j ∈ Ico a B, f j * (if A ≤ j then 1 else 0) = ∑ j ∈ Ico A B, f j := by
  rw [Finset.sum_congr rfl (fun j _ => show f j * (if A ≤ j then 1 else 0) = if A ≤ j then f j else 0 by split_ifs <;> simp), ← Finset.sum_filter]
  refine Finset.sum_congr ?_ fun _ _ => rfl
  ext j; simp only [Finset.mem_filter, Finset.mem_Ico]; omega

/-- The product of a row with the triangular operand: its suffix sums. -/
theorem sfx_sum (α : ℕ → ℝ) (b : ℕ) (c : Fin 256) :
    ∑ j : Fin 256, ((α (256 * b + j.val) : ℝ) : EReal) * (if c ≤ j then 1 else 0)
      = ((∑ j ∈ Ico (256 * b + c.val) (256 * (b + 1)), α j : ℝ) : EReal) := by
  rw [← sum_above (256 * b) (256 * b + c.val) (256 * (b + 1)) α (by omega), ← sum_block 256 b (fun j => α j * (if 256 * b + c.val ≤ j then 1 else 0)), coe_sum]
  refine Finset.sum_congr rfl fun j _ => ?_
  by_cases h : c ≤ j
  · have h' : 256 * b + c.val ≤ 256 * b + j.val := by have := Fin.le_def.mp h; omega
    rw [if_pos h, if_pos h', mul_one, mul_one]
  · have h' : ¬ 256 * b + c.val ≤ 256 * b + j.val := by have := fun k => h (Fin.le_def.mpr k); omega
    rw [if_neg h, if_neg h', mul_zero, mul_zero]; rfl

/-! ## Scalars -/

theorem coe_max' (x y : ℝ) : max (x : EReal) (y : EReal) = ((max x y : ℝ) : EReal) :=
  (EReal.coe_strictMono.monotone.map_max).symm

theorem exp2_coe (x : ℝ) : (FloatOps.exp2 (F := Ideal) (φ := .f32) (x : EReal) : EReal) = (((2 : ℝ) ^ x : ℝ) : EReal) := rfl

theorem exp_coe (x : ℝ) : Ideal.exp (x : EReal) = ((Real.exp x : ℝ) : EReal) := rfl

theorem log_coe (x : ℝ) (h : 0 < x) : Ideal.log (x : EReal) = ((Real.log x : ℝ) : EReal) := by
  show (if x ≤ 0 then (⊥ : EReal) else _) = _
  rw [if_neg (not_le.mpr h)]

theorem abs_coe (x : ℝ) : max (x : EReal) (-(x : EReal)) = ((|x| : ℝ) : EReal) := by
  rw [← EReal.coe_neg, coe_max']; rfl

theorem sp_coe (z : ℝ) (κ : EReal) (hκ : κ = (((Real.log 2)⁻¹ : ℝ) : EReal)) :
    max (z : EReal) 0 + Ideal.log (1 + (FloatOps.exp2 (F := Ideal) (φ := .f32) (0 - (FloatOps.absf (F := Ideal) (φ := .f32) (z : EReal) : EReal)) : EReal)) * κ
      = ((sp z : ℝ) : EReal) := by
  have h1 : (FloatOps.absf (F := Ideal) (φ := .f32) (z : EReal) : EReal) = ((|z| : ℝ) : EReal) := abs_coe z
  have h2 : (0 : EReal) - ((|z| : ℝ) : EReal) = ((0 - |z| : ℝ) : EReal) := by rw [EReal.coe_sub]; rfl
  have h3 : (1 : EReal) + (((2 : ℝ) ^ (0 - |z|) : ℝ) : EReal) = ((1 + (2 : ℝ) ^ (0 - |z|) : ℝ) : EReal) := by rw [EReal.coe_add]; rfl
  rw [h1, h2, exp2_coe, h3, log_coe _ (by positivity), hκ, ← EReal.coe_mul, show (0 : EReal) = ((0 : ℝ) : EReal) from rfl, coe_max', ← EReal.coe_add]
  rfl

/-- Softplus in base `e`. -/
def spE (y : ℝ) : ℝ := max y 0 + Real.log (1 + Real.exp (-|y|))

theorem two_rpow (x : ℝ) : (2 : ℝ) ^ x = Real.exp (x * Real.log 2) := by
  rw [Real.rpow_def_of_pos (by norm_num), mul_comm]

theorem log2_pos : 0 < Real.log 2 := Real.log_pos (by norm_num)

theorem spE_eq (z : ℝ) : spE (z * Real.log 2) = sp z * Real.log 2 := by
  unfold spE sp
  rw [two_rpow, add_mul, max_mul_of_nonneg _ _ log2_pos.le, zero_mul, inv_mul_cancel_right₀ log2_pos.ne', abs_mul, abs_of_pos log2_pos]
  congr 4
  ring

theorem spE_neg (y : ℝ) : spE (-y) = spE y - y := by
  unfold spE
  rw [abs_neg]
  have : max (-y) 0 = max y 0 - y := by
    rcases le_total y 0 with h | h
    · rw [max_eq_left (by linarith), max_eq_right h]; ring
    · rw [max_eq_right (by linarith), max_eq_left h]; ring
  rw [this]; ring

/-- The reference's weight is the kernel's. -/
theorem weight_eq (z T : ℝ) : Real.exp (-spE (-(z * Real.log 2)) + (-(T * Real.log 2) - -(sp z * Real.log 2))) = (2 : ℝ) ^ (z - T) := by
  rw [two_rpow, spE_neg, spE_eq]
  congr 1; ring

theorem gate_coe (x : ℝ) (κ : EReal) (hκ : κ = ((-((Real.log 2)⁻¹) : ℝ) : EReal)) :
    Ideal.div (x : EReal) (1 + (FloatOps.exp2 (F := Ideal) (φ := .f32) ((x : EReal) * κ : EReal) : EReal)) = ((gate x : ℝ) : EReal) := by
  have h3 : ∀ y : ℝ, (1 : EReal) + ((y : ℝ) : EReal) = ((1 + y : ℝ) : EReal) := fun y => by rw [EReal.coe_add]; rfl
  have e : (2 : ℝ) ^ (x * -((Real.log 2)⁻¹)) = Real.exp (-x) := by
    rw [two_rpow]; congr 1
    rw [mul_neg, neg_mul, mul_assoc, inv_mul_cancel₀ log2_pos.ne', mul_one]
  rw [hκ, ← EReal.coe_mul, exp2_coe, e, h3, Ideal.div_coe (by positivity), ← EReal.coe_mul]
  rfl

end Cert.Proof.Val

end
-- ==== Proof.K.Point.lean ====
module

public import proofs.«01_k».proof.Proof.K.Ops
public import proofs.«01_k».proof.Proof.K.Reals

/-! # The kernel's stages at an index

Each stage of a head's work, read at one index, over the extended reals. -/

@[expose] public section

set_option maxRecDepth 16384

noncomputable section

namespace Cert.Proof.K

open Cert.KernelIdeal Cert.KernelIdeal.Gen
open Idealize.ShloMosaic Idealize.ShloMosaic.TcCoe

theorem hz_at (q k : Vec Ideal S1x256x128 .bf16) (r c : Fin 256) :
    hz q k (ix2 r c) = ∑ d : Fin 128, q (ix3 0 r d) * k (ix3 0 c d) := by
  pointwise [hz]

theorem named_log2e : (Named.named (F := Ideal) (φ := .f32) κ "log2e" 0x3FB8AA3B#32 : EReal) = (((Real.log 2)⁻¹ : ℝ) : EReal) :=
  IdealRules.named_const.ideal_named_scalar _ _ _ _ rfl

theorem named_neg : (Named.named (F := Ideal) (φ := .f32) κ "neg_log2e" 0xBFB8AA3B#32 : EReal) = ((-((Real.log 2)⁻¹) : ℝ) : EReal) :=
  IdealRules.named_const.ideal_named_scalar _ _ _ _ rfl

/-- Softplus of a finite score. -/
theorem spW_at (z : FVec Ideal S256x256 .f32) (r c : Fin 256) (x : ℝ) (h : z (ix2 r c) = (x : EReal)) :
    spW z (ix2 r c) = ((Val.sp x : ℝ) : EReal) := by
  pointwise [spW]
  rw [h]
  exact Val.sp_coe x _ named_log2e

theorem slt_at (r c : Fin 256) : IntOp.cmpi CmpIPredicate.slt (BitVec.ofNat 32 c.val) (BitVec.ofNat 32 r.val) = if c < r then 1#1 else 0#1 := by
  have hc := c.isLt
  have hr := r.isLt
  have e : (BitVec.ofNat 32 c.val).slt (BitVec.ofNat 32 r.val) = decide (c < r) := by
    rw [BitVec.slt_eq_decide, BitVec.toInt_eq_toNat_of_lt (by simp; omega), BitVec.toInt_eq_toNat_of_lt (by simp; omega)]
    simp only [BitVec.toNat_ofNat]
    rw [Nat.mod_eq_of_lt (by omega), Nat.mod_eq_of_lt (by omega)]
    exact decide_eq_decide.mpr (by rw [Nat.cast_lt, Fin.lt_def])
  show (BitVec.ofBool _ : BitVec 1) = _
  simp only [IntOp.cmpi, e]
  by_cases h : c < r <;> simp [h]

theorem masked_at (z : FVec Ideal S256x256 .f32) (r c : Fin 256) :
    masked z (ix2 r c) = if c < r then z (ix2 r c) else 0 := by
  pointwise [masked, strict]
  rw [slt_at]
  by_cases h : c < r
  · rw [if_pos h, if_pos h]; rfl
  · rw [if_neg h, if_neg h]; rfl

theorem cum1_at (a : FVec Ideal S256x256 .f32) (s : Vec Ideal S256x256 .bf16) (r c : Fin 256) :
    cum1 s a (ix2 r c) = ∑ j : Fin 256, a (ix2 r j) * s (ix2 j c) := by
  pointwise [cum1, lo]

theorem wv_at (w : FVec Ideal S256x256 .f32) (v : Vec Ideal S1x256x128 .bf16) (r : Fin 256) (e : Fin 128) :
    wv w v (ix2 r e) = ∑ c : Fin 256, w (ix2 r c) * v (ix3 0 c e) := by
  pointwise [wv, lo]

/-- Both halves of a doubled array read the array. -/
theorem dup_at (x : FVec Ideal S256x128 .f32) (y : EReal) (r c : Fin 256) (h : ∀ e, x (ix2 r e) = y) : dup x (ix2 r c) = y := by
  pointwise [dup]
  by_cases hc : c.val < 128
  · rw [dif_pos hc]; exact h _
  · rw [dif_neg hc]; exact h _

theorem flat_at (x : Vec Ideal S1x256x128 .f32) (r : Fin 256) (e : Fin 128) : flat x (ix2 r e) = x (ix3 0 r e) := by
  pointwise [flat]

theorem tall_at (x : FVec Ideal S256x128 .f32) (r : Fin 256) (e : Fin 128) : tall x (ix3 0 r e) = x (ix2 r e) := by
  pointwise [tall]

theorem col0_at (x : FVec Ideal S256x256 .f32) (r : Fin 256) (e : Fin 128) : col0 x (ix2 r e) = x (ix2 r 0) := by
  pointwise [col0]

theorem outT_at (A : Vec Ideal S1x256x128 .f32) (g : Vec Ideal S1x256x128 .bf16) (r : Fin 256) (e : Fin 128) (a x : ℝ)
    (hA : A (ix3 0 r e) = (a : EReal)) (hg : g (ix3 0 r e) = (x : EReal)) :
    outT A g (ix2 r e) = ((a * Val.gate x : ℝ) : EReal) := by
  pointwise [outT, flat]
  rw [hA, hg]
  exact (congrArg ((a : EReal) * ·) (Val.gate_coe x _ named_neg)).trans (EReal.coe_mul _ _).symm

theorem hd_grp (h : Fin 16) : hd (grp h) ⟨h.val % 4, by omega⟩ = h := by
  apply Fin.ext; simp only [hd, grp]; omega

set_option maxHeartbeats 1600000 in
theorem cum8_at (sfx : Vec Ideal S256x256 .bf16) (zd zp : Fin 16 → FVec Ideal S256x256 .f32) (g t : Fin 4) (r c : Fin 256) :
    sq8 (cum8 sfx zd zp g) ⟨t.val, by omega⟩ (ix2 r c) = ∑ j : Fin 256, masked (spW (zd (hd g t))) (ix2 r j) * sfx (ix2 j c)
      ∧ sq8 (cum8 sfx zd zp g) ⟨4 + t.val, by omega⟩ (ix2 r c) = ∑ j : Fin 256, spW (zp (hd g t)) (ix2 r j) * sfx (ix2 j c) := by
  have hr := r.isLt
  fin_cases t <;> constructor <;>
  · pointwise [sq8, cum8, lo]
    try refine Finset.sum_congr rfl fun j _ => congrArg (· * _) ?_
    repeat' first
      | rw [dif_pos (by show _ < _; omega)]
      | rw [dif_neg (by show ¬ _ < _; omega)]
    try (refine congrArg _ (congrArg (fun i => ix2 i j) (Fin.ext ?_)) <;> simp <;> omega)

theorem cumD_at (sfx : Vec Ideal S256x256 .bf16) (q kd kp : Fin 16 → Vec Ideal S1x256x128 .bf16) (h : Fin 16) (r c : Fin 256) :
    cumD sfx q kd kp h (ix2 r c) = ∑ j : Fin 256, masked (spW (hz (q h) (kd h))) (ix2 r j) * sfx (ix2 j c) := by
  have := (cum8_at sfx (fun h => hz (q h) (kd h)) (fun h => hz (q h) (kp h)) (grp h) ⟨h.val % 4, by omega⟩ r c).1
  rw [hd_grp] at this
  exact this

theorem cumP_at (sfx : Vec Ideal S256x256 .bf16) (q kd kp : Fin 16 → Vec Ideal S1x256x128 .bf16) (h : Fin 16) (r c : Fin 256) :
    cumP sfx q kd kp h (ix2 r c) = ∑ j : Fin 256, spW (hz (q h) (kp h)) (ix2 r j) * sfx (ix2 j c) := by
  have := (cum8_at sfx (fun h => hz (q h) (kd h)) (fun h => hz (q h) (kp h)) (grp h) ⟨h.val % 4, by omega⟩ r c).2
  rw [hd_grp] at this
  exact this

end Cert.Proof.K

end
-- ==== Proof.K.Least.lean ====
module

public import proofs.«01_k».proof.Proof.K.Ops
public import proofs.«01_k».proof.Proof.K.Reals

/-! # The loop's test

With finite carries the test for going on holds: the least carry is below +∞. -/

@[expose] public section

set_option maxRecDepth 16384

noncomputable section

namespace Cert.Proof.K

open Cert.KernelIdeal Cert.KernelIdeal.Gen
open Idealize.ShloMosaic Idealize.ShloMosaic.TcCoe

theorem named_top : (Named.named (F := Ideal) (φ := .f32) κ "no_underflow" 0x43170000#32 : EReal) = ⊤ :=
  IdealRules.named_const.ideal_named_scalar _ _ _ _ rfl

theorem minimum_le (x : FVec Ideal S1x16x256x128 .f32) (b : BitVec 32) (h : S1x16x256x128.Reduces [1, 2, 3] S1) (hφ : FKind.Formats .f32)
    (hb : b = FKind.minimumf.neutral .f32 hφ) (j : S1.Idx) (i : S1x16x256x128.Idx) :
    (multiReduction .minimumf [1, 2, 3] S1 x b h hφ hb j : EReal) ≤ x i := by
  rw [multiReduction_minimumf_eq_fold]
  refine (Finset.fold_min_le (β := EReal) (x i)).mpr (Or.inr ⟨i, Finset.mem_filter.mpr ⟨Finset.mem_univ i, ?_⟩, le_rfl⟩)
  funext a; apply Fin.ext
  have h1 : ∀ y : S1.Idx, (y a).val = 0 := fun y => by
    have e : ∀ b : Fin S1.rank, S1.size b = 1 := by decide
    have : (y a).val < 1 := lt_of_lt_of_eq (y a).isLt (e a)
    omega
  rw [h1, h1]

/-- The least carry is at most any carry. -/
theorem least_le (C : Vec Ideal S16x256x128 .f32) : (least C : EReal) ≤ C (ix3 0 0 0) := by
  unfold least k0_pay3
  simp only [extractAt, shapeCast]
  refine (minimum_le _ _ _ _ _ _ (ix4 0 0 0 0)).trans (le_of_eq ?_)
  pointwise

/-- A finite carry keeps the loop going. -/
theorem again_of_finite (C : Fin 16 → Vec Ideal S1x256x128 .f32) (x : ℝ) (h : C 0 (ix3 0 0 0) = (x : EReal)) : again C := by
  have h1 : (least (glue C) : EReal) < ⊤ := by
    refine lt_of_le_of_lt (least_le (glue C)) ?_
    have e : glue C (ix3 0 0 0) = C 0 (ix3 0 0 0) := by
      show C _ _ = _
      refine congrArg (C 0) (funext fun a => ?_)
      fin_cases a <;> rfl
    rw [e, h]; exact EReal.coe_lt_top x
  unfold again
  rw [named_top, Ideal.scalar_cmpf_def]
  simp [Ideal.cmp, h1]

end Cert.Proof.K

end
-- ==== Proof.K.Head.lean ====
module

public import proofs.«01_k».proof.Proof.K.Point
public import proofs.«01_k».proof.Proof.K.Least

/-! # One head of one block of queries

With finite queries, keys and values the kernel's block-by-block accumulation over earlier and earlier blocks of keys ends
at the stick-breaking attention over all the keys before the query. -/

@[expose] public section

set_option maxRecDepth 16384

noncomputable section

namespace Cert.Proof.K

open Cert.KernelIdeal Cert.KernelIdeal.Gen
open Idealize.ShloMosaic Idealize.ShloMosaic.TcCoe
open Val Finset

/-- A tile holds rows `256 b …` of an array of reals. -/
def IsTile (X : Vec Ideal S1x256x128 .bf16) (f : ℕ → Fin 128 → ℝ) (b : ℕ) : Prop :=
  ∀ (r : Fin 256) (d : Fin 128), X (ix3 0 r d) = ((f (256 * b + r.val) d : ℝ) : EReal)

/-- The triangular operand: one where the row is at least the column. -/
def IsSfx (s : Vec Ideal S256x256 .bf16) : Prop := ∀ j c : Fin 256, s (ix2 j c) = if c ≤ j then (1 : EReal) else 0

/-- A head's accumulator and carry once the blocks of keys from `b` on are done. -/
def IsState (q k v : ℕ → Fin 128 → ℝ) (i b : ℕ) (A C : Vec Ideal S1x256x128 .f32) : Prop :=
  ∀ (r : Fin 256) (e : Fin 128), A (ix3 0 r e) = ((acc q k v (256 * i + r.val) (256 * b) e : ℝ) : EReal)
    ∧ C (ix3 0 r e) = ((tl q k (256 * i + r.val) (256 * b) : ℝ) : EReal)

variable {q k v : ℕ → Fin 128 → ℝ} {i b : ℕ}

theorem hz_real {Q K : Vec Ideal S1x256x128 .bf16} (hQ : IsTile Q q i) (hK : IsTile K k b) (r c : Fin 256) :
    hz Q K (ix2 r c) = ((zz q k (256 * i + r.val) (256 * b + c.val) : ℝ) : EReal) := by
  rw [hz_at]; unfold zz; rw [coe_sum]
  refine Finset.sum_congr rfl fun d _ => ?_
  rw [hQ r d, hK c d, EReal.coe_mul]

/-- Suffix sums of a block's softplus. -/
theorem cum_real {Q K : Vec Ideal S1x256x128 .bf16} {s : Vec Ideal S256x256 .bf16} (hQ : IsTile Q q i) (hK : IsTile K k b) (hs : IsSfx s) (r c : Fin 256) :
    ∑ j : Fin 256, spW (hz Q K) (ix2 r j) * s (ix2 j c)
      = ((∑ j ∈ Ico (256 * b + c.val) (256 * (b + 1)), sp (zz q k (256 * i + r.val) j) : ℝ) : EReal) := by
  rw [← sfx_sum (fun j => sp (zz q k (256 * i + r.val) j)) b c]
  refine Finset.sum_congr rfl fun j _ => ?_
  rw [spW_at _ r j _ (hz_real hQ hK r j), hs]

/-- Suffix sums of the diagonal block's softplus: the tail up to the query. -/
theorem cumD_real {Q K : Vec Ideal S1x256x128 .bf16} {s : Vec Ideal S256x256 .bf16} (hQ : IsTile Q q i) (hK : IsTile K k i) (hs : IsSfx s) (r c : Fin 256) :
    ∑ j : Fin 256, masked (spW (hz Q K)) (ix2 r j) * s (ix2 j c) = ((tl q k (256 * i + r.val) (256 * i + c.val) : ℝ) : EReal) := by
  unfold tl
  rw [← sum_below (256 * i + c.val) (256 * (i + 1)) (256 * i + r.val) _ (by have := r.isLt; omega),
    ← sfx_sum (fun j => if j < 256 * i + r.val then sp (zz q k (256 * i + r.val) j) else 0) i c]
  refine Finset.sum_congr rfl fun j _ => ?_
  rw [masked_at, hs]
  refine congrArg (· * _) ?_
  by_cases h : j < r
  · rw [if_pos h, if_pos (by have := Fin.lt_def.mp h; omega), spW_at _ r j _ (hz_real hQ hK r j)]
  · rw [if_neg h, if_neg (by have := fun x => h (Fin.lt_def.mpr x); omega)]; rfl

/-- The contribution of a whole earlier block. -/
theorem block_real {K V : Vec Ideal S1x256x128 .bf16} (t : ℕ) (z u : Fin 256 → EReal) (d : EReal) (hV : IsTile V v b) (hb : 256 * (b + 1) ≤ t)
    (hz : ∀ c : Fin 256, z c = ((zz q k t (256 * b + c.val) : ℝ) : EReal))
    (hu : ∀ c : Fin 256, u c = ((∑ j ∈ Ico (256 * b + c.val) (256 * (b + 1)), sp (zz q k t j) : ℝ) : EReal))
    (hd : d = ((tl q k t (256 * (b + 1)) : ℝ) : EReal)) (e : Fin 128) :
    ∑ c : Fin 256, (FloatOps.exp2 (F := Ideal) (φ := .f32) (z c - u c - d : EReal) : EReal) * V (ix3 0 c e)
      = ((∑ s ∈ Ico (256 * b) (256 * (b + 1)), wt q k t s * v s e : ℝ) : EReal) := by
  rw [← sum_block 256 b (fun s => wt q k t s * v s e), coe_sum]
  refine Finset.sum_congr rfl fun c _ => ?_
  have hc := c.isLt
  rw [hz, hu, hd, hV c e, ← EReal.coe_sub, ← EReal.coe_sub, exp2_coe, EReal.coe_mul]
  unfold wt
  rw [tl_split q k t (256 * b + c.val) (256 * (b + 1)) (by omega) hb]
  congr 3
  ring

/-- One trip of the loop takes in one more block. -/
theorem step_real {Q K V : Vec Ideal S1x256x128 .bf16} {s : Vec Ideal S256x256 .bf16} {A C : Vec Ideal S1x256x128 .f32} (hQ : IsTile Q q i)
    (hK : IsTile K k b) (hV : IsTile V v b) (hs : IsSfx s) (hbi : b + 1 ≤ i) (h : IsState q k v i (b + 1) A C) :
    IsState q k v i b (tripA s Q K V C A) (tripC s Q K C) := by
  intro r e
  have ht : 256 * (b + 1) ≤ 256 * i + r.val := by omega
  constructor
  · unfold tripA
    rw [tall_at]
    pointwise
    rw [flat_at, wv_at, (h r e).1]
    have hsum := block_real (q := q) (k := k) (K := K) (256 * i + r.val) (fun c => hz Q K (ix2 r c)) (fun c => cum1 s (spW (hz Q K)) (ix2 r c)) _ hV ht
      (fun c => hz_real hQ hK r c) (fun c => (cum1_at _ _ r c).trans (cum_real hQ hK hs r c)) rfl e
    rw [acc_split q k v _ (256 * b) (256 * (b + 1)) e (by omega) ht, EReal.coe_add, ← hsum]
    refine congrArg (((acc q k v (256 * i + r.val) (256 * (b + 1)) e : ℝ) : EReal) + ·) (Finset.sum_congr rfl fun c _ => ?_)
    refine congrArg (· * V (ix3 0 c e)) ?_
    pointwise
    rw [dup_at (flat C) _ r c (fun e => (flat_at C r e).trans (h r e).2)]
  · unfold tripC
    rw [tall_at]
    pointwise
    rw [flat_at, col0_at, (h r e).2, cum1_at, cum_real hQ hK hs r 0, ← EReal.coe_add]
    exact congrArg _ (tl_split q k _ (256 * b) (256 * (b + 1)) (by omega) ht).symm

/-- The diagonal block and, past the first block of queries, the block before it. -/
theorem init_real {q k v : Fin 16 → ℕ → Fin 128 → ℝ} {Q KD KP VD VP : Fin 16 → Vec Ideal S1x256x128 .bf16} {s : Vec Ideal S256x256 .bf16} (hi : i < 64)
    (hQ : ∀ h, IsTile (Q h) (q h) i) (hKD : ∀ h, IsTile (KD h) (k h) i) (hKP : ∀ h, IsTile (KP h) (k h) (i - 1)) (hVD : ∀ h, IsTile (VD h) (v h) i)
    (hVP : ∀ h, IsTile (VP h) (v h) (i - 1)) (hs : IsSfx s) (h : Fin 16) (r : Fin 256) (e : Fin 128) :
    initA (BitVec.ofNat 32 i) s Q KD KP VD VP h (ix3 0 r e) = ((acc (q h) (k h) (v h) (256 * i + r.val) (256 * (i - 1)) e : ℝ) : EReal)
      ∧ (0 < i → initC s Q KD KP h (ix3 0 r e) = ((tl (q h) (k h) (256 * i + r.val) (256 * (i - 1)) : ℝ) : EReal)) := by
  have hr := r.isLt
  have hD : ∀ c, cumD s Q KD KP h (ix2 r c) = ((tl (q h) (k h) (256 * i + r.val) (256 * i + c.val) : ℝ) : EReal) := fun c =>
    (cumD_at s Q KD KP h r c).trans (cumD_real (hQ h) (hKD h) hs r c)
  have hD0 : cumD s Q KD KP h (ix2 r 0) = ((tl (q h) (k h) (256 * i + r.val) (256 * i) : ℝ) : EReal) := hD 0
  have hP : ∀ c, cumP s Q KD KP h (ix2 r c) = _ := fun c => (cumP_at s Q KD KP h r c).trans (cum_real (hQ h) (hKP h) hs r c)
  have hdiag : wv (masked (exp2 (subf (hz (Q h) (KD h)) (cumD s Q KD KP h)))) (VD h) (ix2 r e)
      = ((acc (q h) (k h) (v h) (256 * i + r.val) (256 * i) e : ℝ) : EReal) := by
    rw [wv_at]; unfold acc
    rw [← sum_below (256 * i) (256 * (i + 1)) (256 * i + r.val) _ (by omega), ← sum_block 256 i, coe_sum]
    refine Finset.sum_congr rfl fun c _ => ?_
    rw [masked_at, hVD h c e]
    by_cases hc : c < r
    · rw [if_pos hc, if_pos (by have := Fin.lt_def.mp hc; omega), EReal.coe_mul]
      refine congrArg (· * _) ?_
      pointwise
      rw [hz_real (hQ h) (hKD h) r c, hD c, ← EReal.coe_sub, exp2_coe]
      rfl
    · rw [if_neg hc, if_neg (by have := fun x => hc (Fin.lt_def.mpr x); omega), zero_mul]; rfl
  have hpos : 0 < i → 256 * (i - 1 + 1) = 256 * i := fun h => by omega
  constructor
  · unfold initA
    rw [tall_at]
    pointwise
    rw [hdiag]
    by_cases h0 : i = 0
    · subst h0
      have e0 : Scalar.cmpi .sgt (BitVec.ofNat 32 0) 0#32 = 0#1 := by decide
      rw [e0]
      show _ + (0 : EReal) = _
      rw [add_zero]
    · have h0' : 0 < i := by omega
      have e1 : ∀ j : Fin 64, 0 < j.val → Scalar.cmpi .sgt (BitVec.ofNat 32 j.val) 0#32 = 1#1 := by decide
      rw [e1 ⟨i, hi⟩ h0']
      have hsum := block_real (q := q h) (k := k h) (K := KP h) (256 * i + r.val) (fun c => hz (Q h) (KP h) (ix2 r c)) (fun c => cumP s Q KD KP h (ix2 r c)) _ (hVP h)
        (by rw [hpos h0']; omega) (fun c => hz_real (hQ h) (hKP h) r c) hP rfl e
      show _ + wv _ _ (ix2 r e) = _
      rw [acc_split (q h) (k h) (v h) _ (256 * (i - 1)) (256 * i) e (by omega) (by omega), EReal.coe_add, wv_at]
      have hsum' := hsum.trans (congrArg (fun n => ((∑ s ∈ Ico (256 * (i - 1)) n, wt (q h) (k h) (256 * i + r.val) s * v h s e : ℝ) : EReal)) (hpos h0'))
      rw [hpos h0'] at hsum'
      rw [← hsum']
      refine congrArg (_ + ·) (Finset.sum_congr rfl fun c _ => ?_)
      refine congrArg (· * VP h (ix3 0 c e)) ?_
      pointwise
      rw [dup_at (col0 (cumD s Q KD KP h)) _ r c (fun e => (col0_at _ r e).trans hD0)]
  · intro h0
    unfold initC
    rw [tall_at]
    pointwise
    rw [col0_at, col0_at, hD0, hP 0, ← EReal.coe_add, hpos h0]
    exact congrArg _ (tl_split (q h) (k h) _ (256 * (i - 1)) (256 * i) (by omega) (by omega)).symm

/-- The loop over the earlier blocks. -/
theorem loop_real {q k v : Fin 16 → ℕ → Fin 128 → ℝ} {Q : Fin 16 → Vec Ideal S1x256x128 .bf16} {K V : ℕ → Fin 16 → Vec Ideal S1x256x128 .bf16}
    {s : Vec Ideal S256x256 .bf16} (hQ : ∀ h, IsTile (Q h) (q h) i) (hK : ∀ b < i, ∀ h, IsTile (K b h) (k h) b)
    (hV : ∀ b < i, ∀ h, IsTile (V b h) (v h) b) (hs : IsSfx s) :
    ∀ (n : ℕ) (S : St Ideal), n ≤ i → (∀ h, IsState (q h) (k h) (v h) i n (S.1 h) (S.2 h)) →
      ∀ h, IsState (q h) (k h) (v h) i 0 ((loopS s Q K V n S).1 h) ((loopS s Q K V n S).2 h) := by
  intro n
  induction n with
  | zero => intro S _ h; exact h
  | succ n ih =>
    intro S hn h
    rw [loopS, if_pos (again_of_finite S.2 _ (h 0 0 0).2)]
    exact ih _ (by omega) fun h' => step_real (hQ h') (hK n (by omega) h') (hV n (by omega) h') hs hn (h h')

/-- A head's output tile: the attention over all earlier keys, gated. -/
theorem head_real {q k v g : Fin 16 → ℕ → Fin 128 → ℝ} {Q KD KP VD VP G : Fin 16 → Vec Ideal S1x256x128 .bf16} {K V : ℕ → Fin 16 → Vec Ideal S1x256x128 .bf16}
    {s : Vec Ideal S256x256 .bf16} (hi : i < 64)
    (hQ : ∀ h, IsTile (Q h) (q h) i) (hKD : ∀ h, IsTile (KD h) (k h) i) (hKP : ∀ h, IsTile (KP h) (k h) (i - 1)) (hVD : ∀ h, IsTile (VD h) (v h) i)
    (hVP : ∀ h, IsTile (VP h) (v h) (i - 1)) (hG : ∀ h, IsTile (G h) (g h) i) (hK : ∀ b < i, ∀ h, IsTile (K b h) (k h) b)
    (hV : ∀ b < i, ∀ h, IsTile (V b h) (v h) b) (hs : IsSfx s) (h : Fin 16) (r : Fin 256) (e : Fin 128) :
    outT ((loopS s Q K V (i - 1) (initA (BitVec.ofNat 32 i) s Q KD KP VD VP, initC s Q KD KP)).1 h) (G h) (ix2 r e)
      = ((acc (q h) (k h) (v h) (256 * i + r.val) 0 e * gate (g h (256 * i + r.val) e) : ℝ) : EReal) := by
  refine outT_at _ _ r e _ _ ?_ (hG h r e)
  by_cases h0 : 0 < i
  · exact (loop_real hQ hK hV hs (i - 1) _ (by omega) (fun h' r' e' =>
      have := init_real hi hQ hKD hKP hVD hVP hs h' r' e'
      ⟨this.1, this.2 h0⟩) h r e).1
  · obtain rfl : i = 0 := by omega
    exact (init_real hi hQ hKD hKP hVD hVP hs h r e).1

end Cert.Proof.K

end
-- ==== Proof.K.Blocks.lean ====
module

public import proofs.«01_k».proof.Proof.K.Run
public import proofs.«01_k».proof.Proof.K.Head
public import Idealize.ShloMosaic.Lib.Pipeline.ValueKit

/-! # The attention's array, block by block

The staged blocks as row blocks of the projected array, the triangular operand the host builds, and from them the whole output. -/

@[expose] public section

set_option maxRecDepth 16384

noncomputable section

namespace Cert.Proof.K

open Cert.KernelIdeal Cert.KernelIdeal.Gen
open Idealize.ShloMosaic Idealize.ShloMosaic.TcCoe
open Idealize.SL.Sem
open Idealize.ShloMosaic.Pipeline (Dat)
open Val

variable (m : (ℓ : Loc nD τ sig) → Buf (Elt Ideal) ℓ) (ρ : Dev nD → PrngReg)

theorem idx : ∀ t : Fin grid0.N, (grid0.coords t 0).val = t.val ∧ win0_0.index t = ![0, t.val, 0] ∧ win0_1.index t = ![1, t.val, 0]
    ∧ win0_2.index t = ![1, t.val - 1, 0] ∧ win0_3.index t = ![2, t.val, 0] ∧ win0_4.index t = ![2, t.val - 1, 0]
    ∧ win0_5.index t = ![3, t.val, 0] ∧ win0_6.index t = ![0, 0] ∧ win0_7.index t = ![t.val, 0] := by decide +kernel

/-- The host's triangular operand. -/
theorem V_sfx (c : Dev nD) : V m ρ c main_v4 = truncf .bf16 (select (cmpi .sge (iotaInDim S256x256 32 0) (iotaInDim S256x256 32 1))
    (broadcastInDim S256x256 ![] bcast_S_S256x256 (constant S_ .f32 0x3F800000#32)) (broadcastInDim S256x256 ![] bcast_S_S256x256 (constant S_ .f32 0x00000000#32)) : FVec Ideal S256x256 .f32) bitsLt_bf16_f32 := by
  unfold V V₃
  unfold_abbrev_sides
  after_results
  rfl

theorem sge_at (r c : Fin 256) : IntOp.cmpi CmpIPredicate.sge (BitVec.ofNat 32 r.val) (BitVec.ofNat 32 c.val) = if c ≤ r then 1#1 else 0#1 := by
  have hc := c.isLt
  have hr := r.isLt
  have e : (BitVec.ofNat 32 c.val).sle (BitVec.ofNat 32 r.val) = decide (c ≤ r) := by
    rw [BitVec.sle_eq_decide, BitVec.toInt_eq_toNat_of_lt (by simp; omega), BitVec.toInt_eq_toNat_of_lt (by simp; omega)]
    simp only [BitVec.toNat_ofNat]
    rw [Nat.mod_eq_of_lt (by omega), Nat.mod_eq_of_lt (by omega)]
    exact decide_eq_decide.mpr (by rw [Nat.cast_le, Fin.le_def])
  show (BitVec.ofBool _ : BitVec 1) = _
  rw [e]
  by_cases h : c ≤ r
  · rw [if_pos h, decide_eq_true h]; rfl
  · rw [if_neg h, decide_eq_false h]; rfl

theorem sfx_is (c : Dev nD) (t : Fin (cfg0 (F := Ideal)).N) : IsSfx (blkX m ρ c 6 t) := by
  intro j k
  have e : blkX m ρ c 6 t (ix2 j k) = V m ρ c main_v4 (ix2 j k) := by
    blk_ext [blkX, idx t]
  rw [e, V_sfx]
  pointwise
  rw [sge_at]
  by_cases h : k ≤ j
  · rw [if_pos h, if_pos h]; rfl
  · rw [if_neg h, if_neg h]; rfl

variable {m ρ} {X : ℕ → ℕ → Fin 128 → ℝ} {c : Dev nD}

/-- The projected array is finite: entry `(p, t, d)` is the real `X p t d`. -/
def IsRealK (m : (ℓ : Loc nD τ sig) → Buf (Elt Ideal) ℓ) (c : Dev nD) (X : ℕ → ℕ → Fin 128 → ℝ) : Prop :=
  ∀ (p : Fin 64) (t : Fin 16384) (d : Fin 128), (m ((c : Thread nD τ).loc main_arg0) : S64x16384x128.Idx → EReal) (ix3 p t d) = ((X p.val t.val d : ℝ) : EReal)

/-- A block of sixteen head planes, cut at a row block. -/
theorem tile_of (hx : IsRealK m c X) (B : S16x256x128.Idx → EReal) (a b : ℕ) (ha : a < 4) (hb : b < 64)
    (hB : ∀ (h : Fin 16) (r : Fin 256) (d : Fin 128), B (ix3 h r d) = (V m ρ c main_arg0 : S64x16384x128.Idx → EReal)
      (ix3 (⟨16 * a + h.val, by omega⟩ : Fin 64) (⟨256 * b + r.val, by omega⟩ : Fin 16384) d)) (h : Fin 16) :
    IsTile (tilesX B h) (X (16 * a + h.val)) b := by
  intro r d
  refine Eq.trans ?_ (hx ⟨16 * a + h.val, by omega⟩ ⟨256 * b + r.val, by omega⟩ d)
  rw [← V_arg0 m ρ c]
  refine Eq.trans ?_ (hB h r d)
  unfold tilesX
  refine congrArg B (funext fun a => Fin.ext ?_)
  match a with
  | ⟨0, _⟩ => show h.val + 1 * 0 = h.val; omega
  | ⟨1, _⟩ => show 0 + 1 * r.val = r.val; omega
  | ⟨2, _⟩ => show 0 + 1 * d.val = d.val; omega

theorem plane_tile (hx : IsRealK m c X) (n b : ℕ) (hn : n < 64) (hb : b < 64) : IsTile (plane (V m ρ c main_arg0) n b) (X n) b := by
  intro r d
  refine Eq.trans ?_ (hx ⟨n, hn⟩ ⟨256 * b + r.val, by omega⟩ d)
  rw [← V_arg0 m ρ c]
  unfold plane
  refine congrArg (V m ρ c main_arg0) (funext fun a => Fin.ext ?_)
  match a with
  | ⟨0, _⟩ => exact Nat.mod_eq_of_lt hn
  | ⟨1, _⟩ => exact congrArg (fun z => 256 * z + r.val) (Nat.mod_eq_of_lt hb)
  | ⟨2, _⟩ => rfl

/-- One entry of the attention's array. -/
def attn (X : ℕ → ℕ → Fin 128 → ℝ) (t j : ℕ) : ℝ :=
  acc (X (j / 128)) (X (16 + j / 128)) (X (32 + j / 128)) t 0 ⟨j % 128, Nat.mod_lt _ (by norm_num)⟩
    * gate (X (48 + j / 128) t ⟨j % 128, Nat.mod_lt _ (by norm_num)⟩)

/-- The block of a grid point. -/
theorem outAt_real (hx : IsRealK m c X) (t : Fin (cfg0 (F := Ideal)).N) (r : Fin 256) (j : Fin 2048) :
    outAt m ρ c t (ix2 r j) = ((attn X (256 * t.val + r.val) j.val : ℝ) : EReal) := by
  have ht : t.val < 64 := t.isLt
  have hi := (idx t).1
  unfold outAt outX glueO
  have e0 := tile_of (ρ := ρ) hx (blkX m ρ c 0 t) 0 t.val (by omega) ht (fun h r d => by blk_ext [blkX, idx t])
  have e1 := tile_of (ρ := ρ) hx (blkX m ρ c 1 t) 1 t.val (by omega) ht (fun h r d => by blk_ext [blkX, idx t])
  have e2 := tile_of (ρ := ρ) hx (blkX m ρ c 2 t) 1 (t.val - 1) (by omega) (by omega) (fun h r d => by blk_ext [blkX, idx t])
  have e3 := tile_of (ρ := ρ) hx (blkX m ρ c 3 t) 2 t.val (by omega) ht (fun h r d => by blk_ext [blkX, idx t])
  have e4 := tile_of (ρ := ρ) hx (blkX m ρ c 4 t) 2 (t.val - 1) (by omega) (by omega) (fun h r d => by blk_ext [blkX, idx t])
  have e5 := tile_of (ρ := ρ) hx (blkX m ρ c 5 t) 3 t.val (by omega) ht (fun h r d => by blk_ext [blkX, idx t])
  have key := head_real (i := t.val) (q := fun h => X (16 * 0 + h.val)) (k := fun h => X (16 * 1 + h.val)) (v := fun h => X (16 * 2 + h.val))
    (g := fun h => X (16 * 3 + h.val)) (K := fun b h => plane (V m ρ c main_arg0) (16 + h.val) b) (V := fun b h => plane (V m ρ c main_arg0) (32 + h.val) b)
    ht e0 e1 e2 e3 e4 e5 (fun b hb h => plane_tile hx (16 + h.val) b (by omega) (by omega)) (fun b hb h => plane_tile hx (32 + h.val) b (by omega) (by omega))
    (sfx_is m ρ c t) ⟨j.val / 128, by omega⟩ r ⟨j.val % 128, by omega⟩
  simp only [Nat.reduceMul, Nat.zero_add] at key
  have hin : inO (ix2 r j) = (ix2 r (⟨j.val % 128, by omega⟩ : Fin 128) : Tt.Idx) := funext fun a => by
    match a with
    | ⟨0, _⟩ => rfl
    | ⟨1, _⟩ => rfl
  show outT ((loopS _ _ _ _ ((grid0.coords t 0).val - 1) (initA (BitVec.ofNat 32 (grid0.coords t 0).val) _ _ _ _ _ _, _)).1
    ⟨j.val / 128, _⟩) (tilesX _ ⟨j.val / 128, _⟩) (inO (ix2 r j)) = _
  rw [hi, hin]
  exact key

/-- The attention's array after the run. -/
theorem arr_real (hx : IsRealK m c X) : (dats m ρ 0 c).arrAt 7 (cfg0 (F := Ideal)).N
    = fun y : S16384x2048.Idx => ((attn X (y 0).val (y 1).val : ℝ) : EReal) := by
  refine (dats m ρ 0 c).arrAt_eq_of_covers 7 _ (by decide +kernel) fun t _ y => ?_
  blk_simp
  rw [after_7]
  obtain ⟨-, -, -, -, -, -, -, -, e7⟩ := idx t
  have h0 : win0_7.index t 0 = t.val := congrFun e7 0
  have h1 : win0_7.index t 1 = 0 := congrFun e7 1
  refine (congrArg (outAt m ρ c t) (show (y : S256x2048.Idx) = ix2 (y 0) (y 1) from funext fun a => by
    match a with
    | ⟨0, _⟩ => rfl
    | ⟨1, _⟩ => rfl)).trans ((outAt_real hx t (y 0) (y 1)).trans ?_)
  rw [h0, h1, Nat.mul_comm t.val, Nat.zero_mul, Nat.zero_add]

end Cert.Proof.K

end
-- ==== Proof.R.Cumsum.lean ====
module

public import Idealize.ShloMosaic.Lib.Pointwise
public import Idealize.ShloMosaic.PureOps.Ideal.Laws

/-! # Running sums

A cumulative sum along the last of three axes, over the extended reals: entry `j` is the sum of the entries up to `j`. -/

@[expose] public section

noncomputable section

namespace Cert.Proof.R

open Idealize.ShloMosaic Idealize.ShloMosaic.TcCoe

theorem foldl_add {ι : Type} (f : ι → EReal) (l : List ι) (v : EReal) : l.foldl (fun r n => r + f n) v = v + (l.map f).sum := by
  induction l generalizing v with
  | nil => simp
  | cons a l ih => rw [List.foldl_cons, ih, List.map_cons, List.sum_cons, add_assoc]

/-- Reading a window that ends at `j`. -/
theorem window_sum (M j : ℕ) (hj : j < M + 1) (f : Fin (M + 1) → EReal) :
    ∑ w : Fin (M + 1), (if h : M ≤ j + w.val then f ⟨j + w.val - M, by have := w.isLt; omega⟩ else 0) = ∑ i : Fin (M + 1), if i.val ≤ j then f i else 0 := by
  classical
  rw [← Finset.sum_filter]
  rw [← Finset.sum_filter_add_sum_filter_not Finset.univ (fun w : Fin (M + 1) => M ≤ j + w.val)]
  rw [Finset.sum_eq_zero (s := Finset.univ.filter fun w : Fin (M + 1) => ¬ M ≤ j + w.val) (fun w hw => dif_neg (Finset.mem_filter.mp hw).2), add_zero]
  refine Finset.sum_bij' (fun w _ => (⟨j + w.val - M, by have := w.isLt; omega⟩ : Fin (M + 1)))
    (fun i _ => (⟨if i.val ≤ j then M + i.val - j else 0, by have := i.isLt; split_ifs <;> omega⟩ : Fin (M + 1))) ?_ ?_ ?_ ?_ ?_
  · intro w hw
    have := (Finset.mem_filter.mp hw).2
    have := w.isLt
    exact Finset.mem_filter.mpr ⟨Finset.mem_univ _, by show j + w.val - M ≤ j; omega⟩
  · intro i hi
    have h := (Finset.mem_filter.mp hi).2
    refine Finset.mem_filter.mpr ⟨Finset.mem_univ _, ?_⟩
    show M ≤ j + (if i.val ≤ j then M + i.val - j else 0)
    rw [if_pos h]; omega
  · intro w hw
    have h := (Finset.mem_filter.mp hw).2
    have := w.isLt
    apply Fin.ext
    show (if j + w.val - M ≤ j then M + (j + w.val - M) - j else 0) = w.val
    rw [if_pos (by omega)]; omega
  · intro i hi
    have h := (Finset.mem_filter.mp hi).2
    apply Fin.ext
    show j + (if i.val ≤ j then M + i.val - j else 0) - M = i.val
    rw [if_pos h]; omega
  · intro w hw
    exact dif_pos (Finset.mem_filter.mp hw).2

theorem cumsum_at {A B M : ℕ} (x : FVec Ideal (⟨3, ![A, B, M + 1]⟩ : Shape) .f32) {u : Shape} (init : u.Idx → Ideal .f32)
    (h : (⟨3, ![A, B, M + 1]⟩ : Shape).ReduceWindows (![1, 1, M + 1] : Fin 3 → ℕ) ![1, 1, 1] ![0, 0, M] ![0, 0, 0] (⟨3, ![A, B, M + 1]⟩ : Shape))
    (hu : 0 < u.numel) (h0 : init (Shape.Idx.first hu) = (0 : EReal)) (a : Fin A) (b : Fin B) (j : Fin (M + 1)) :
    (Host.reduceWindowAdd (F := Ideal) (φ := .f32) ![1, 1, M + 1] ![1, 1, 1] ![0, 0, M] ![0, 0, 0] x init h hu (ix3 a b j) : EReal)
      = ∑ i : Fin (M + 1), if i.val ≤ j.val then (x (ix3 a b i) : EReal) else 0 := by
  unfold Host.reduceWindowAdd
  rw [Ideal.hostReduceWindowAdd_def]
  unfold Ideal.hostReduceWindowAdd Host.reduceWindow
  rw [h0]
  have hj := j.isLt
  let W : Shape := ⟨3, ![1, 1, M + 1]⟩
  let g : W.Idx → EReal := fun p => if h : M ≤ j.val + (p 2).val then x (ix3 a b ⟨j.val + (p 2).val - M, by have : (p 2).val < M + 1 := (p 2).isLt; omega⟩) else 0
  refine (foldl_add (fun n : Fin W.numel => _) _ 0).trans ?_
  rw [zero_add]
  refine Eq.trans (congrArg List.sum (List.map_congr_left (g := fun n : Fin W.numel => g (W.rowMajor.symm n)) fun n _ => ?_)) ?_
  · have e0 : (W.rowMajor.symm n 0).val = 0 := by have : (W.rowMajor.symm n 0).val < 1 := (W.rowMajor.symm n 0).isLt; omega
    have e1 : (W.rowMajor.symm n 1).val = 0 := by have : (W.rowMajor.symm n 1).val < 1 := (W.rowMajor.symm n 1).isLt; omega
    have e2 : (W.rowMajor.symm n 2).val < M + 1 := (W.rowMajor.symm n 2).isLt
    by_cases hM : M ≤ j.val + (W.rowMajor.symm n 2).val
    · show _ = dite _ _ _
      rw [dif_pos hM]
      refine (dif_pos ?_).trans (congrArg x (funext fun c => Fin.ext ?_))
      · intro c
        match c with
        | ⟨0, _⟩ => show 0 ≤ a.val * 1 + (W.rowMajor.symm n 0).val ∧ a.val * 1 + (W.rowMajor.symm n 0).val - 0 < A; rw [e0]; have := a.isLt; omega
        | ⟨1, _⟩ => show 0 ≤ b.val * 1 + (W.rowMajor.symm n 1).val ∧ b.val * 1 + (W.rowMajor.symm n 1).val - 0 < B; rw [e1]; have := b.isLt; omega
        | ⟨2, _⟩ => show M ≤ j.val * 1 + (W.rowMajor.symm n 2).val ∧ j.val * 1 + (W.rowMajor.symm n 2).val - M < M + 1; omega
      · match c with
        | ⟨0, _⟩ => show a.val * 1 + (W.rowMajor.symm n 0).val - 0 = a.val; rw [e0]; omega
        | ⟨1, _⟩ => show b.val * 1 + (W.rowMajor.symm n 1).val - 0 = b.val; rw [e1]; omega
        | ⟨2, _⟩ => show j.val * 1 + (W.rowMajor.symm n 2).val - M = j.val + (W.rowMajor.symm n 2).val - M; omega
    · show _ = dite _ _ _
      rw [dif_neg hM]
      refine dif_neg fun hin => hM ?_
      have h2 : M ≤ j.val * 1 + (W.rowMajor.symm n 2).val := (hin 2).1
      omega
  · rw [← Fin.sum_univ_def, Equiv.sum_comp W.rowMajor.symm g, sum_idx3]
    rw [Fin.sum_univ_one, Fin.sum_univ_one]
    exact window_sum M j.val hj fun i => x (ix3 a b i)

end Cert.Proof.R

end
-- ==== Proof.R.Ref.lean ====
module

public import proofs.«01_k».proof.Proof.Gen.ReferenceIdeal.Run
public import proofs.«01_k».proof.Proof.K.Reals
public import proofs.«01_k».proof.Proof.R.Cumsum

/-! # The reference, stage by stage

A name for each stage of the reference's composed term, and its value at an index when the projected array is finite. -/

@[expose] public section

set_option maxRecDepth 16384

noncomputable section

namespace Cert.Proof.R

open Cert.ReferenceIdeal Cert.ReferenceIdeal.Gen
open Idealize.ShloMosaic Idealize.ShloMosaic.TcCoe
open Val Finset

/-- A full-size array of zeros. -/
def zeros : FVec Ideal S16x16384x16384 .f32 := broadcastInDim S16x16384x16384 ![] bcast_S_S16x16384x16384 (constant S_ .f32 0x00000000#32)

/-- Which keys come before the query. -/
def mask : IVec S16x16384x16384 1 :=
  broadcastInDim S16x16384x16384 ![0, 1, 2] bcast_S1x16384x16384_S16x16384x16384_0_1_2
    (broadcastInDim S1x16384x16384 ![1, 2] bcast_S16384x16384_S1x16384x16384_1_2 (cmpi .slt (iotaInDim S16384x16384 32 1) (iotaInDim S16384x16384 32 0)))

/-- The scores. -/
def zR (x : FVec Ideal S64x16384x128 .bf16) : FVec Ideal S16x16384x16384 .f32 :=
  mulf (Host.dotGeneral dot_S16x16384x128_S16x16384x128_S16x16384x16384_2_2_1_1_0_0 none (extf .f32 (extractStridedSlice S16x16384x128 ![0, 0, 0] x slices_S64x16384x128_S16x16384x128_0_0_0) bitsLt_bf16_f32) (extf .f32 (extractStridedSlice S16x16384x128 ![16, 0, 0] x slices_S64x16384x128_S16x16384x128_16_0_0) bitsLt_bf16_f32)) (broadcastInDim S16x16384x16384 ![] bcast_S_S16x16384x16384 (Host.log (constant S_ .f32 0x40000000#32)))

/-- Softplus. -/
def spR (y : FVec Ideal S16x16384x16384 .f32) : FVec Ideal S16x16384x16384 .f32 :=
  select (cmpf .une (subf y zeros) (subf y zeros)) (addf y zeros) (addf (maximumf y zeros) (Host.log1p (Host.exp (Host.negf (Host.absf (subf y zeros))))))

/-- The logarithm of what each key leaves, masked. -/
def keepR (x : FVec Ideal S64x16384x128 .bf16) : FVec Ideal S16x16384x16384 .f32 :=
  select mask (Host.negf (spR (Host.negf (Host.negf (zR x))))) (broadcastInDim S16x16384x16384 ![] bcast_S_S16x16384x16384 (id (constant S_ .f32 0x00000000#32)))

/-- Its sums from each key on. -/
def sumR (y : FVec Ideal S16x16384x16384 .f32) : FVec Ideal S16x16384x16384 .f32 :=
  Host.reverse [2] (Host.reduceWindowAdd ![1, 1, 16384] ![1, 1, 1] ![0, 0, 16383] ![0, 0, 0] (Host.reverse [2] y) (broadcastInDim S_ ![] bcast_S_S_ (constant S_ .f32 0x00000000#32)) reduceWindows_S16x16384x16384_S16x16384x16384_w1s1p0_0_w1s1p0_0_w16384s1p16383_0 h_S_)

/-- The weights. -/
def wR (x : FVec Ideal S64x16384x128 .bf16) : FVec Ideal S16x16384x16384 .f32 :=
  select mask (Host.exp (addf (Host.negf (spR (Host.negf (zR x)))) (subf (sumR (keepR x)) (keepR x)))) (broadcastInDim S16x16384x16384 ![] bcast_S_S16x16384x16384 (id (constant S_ .f32 0x00000000#32)))

/-- The result. -/
def outR (x : FVec Ideal S64x16384x128 .bf16) : FVec Ideal S16384x2048 .bf16 :=
  truncf .bf16 (shapeCast _ (transpose S16384x16x128 [1, 0, 2] (mulf (Host.dotGeneral dot_S16x16384x16384_S16x16384x128_S16x16384x128_2_1_1_2_0_0 none (wR x) (extf .f32 (extractStridedSlice S16x16384x128 ![32, 0, 0] x slices_S64x16384x128_S16x16384x128_32_0_0) bitsLt_bf16_f32)) (mulf (extf .f32 (extractStridedSlice S16x16384x128 ![48, 0, 0] x slices_S64x16384x128_S16x16384x128_48_0_0) bitsLt_bf16_f32) (Host.divf (broadcastInDim S16x16384x128 ![] bcast_S_S16x16384x128 (constant S_ .f32 0x3F800000#32)) (addf (broadcastInDim S16x16384x128 ![] bcast_S_S16x16384x128 (constant S_ .f32 0x3F800000#32)) (Host.exp (Host.negf (extf .f32 (extractStridedSlice S16x16384x128 ![48, 0, 0] x slices_S64x16384x128_S16x16384x128_48_0_0) bitsLt_bf16_f32))))))) transposes_S16x16384x128_S16384x16x128_1_0_2) shapeCasts_S16384x16x128_S16384x2048) bitsLt_bf16_f32

theorem res_eq (m : (ℓ : Loc nD τ sig) → Buf (Elt Ideal) ℓ) (c : Dev nD) :
    Cert.ReferenceIdeal.Value.res_main_v33 m c = outR (m ((c.tc : Thread nD τ).loc main_arg0)) := by
  unfold Cert.ReferenceIdeal.Value.res_main_v33 outR wR keepR sumR spR zR mask zeros
  rfl

theorem slt_word (s t : Fin 16384) : IntOp.cmpi CmpIPredicate.slt (BitVec.ofNat 32 s.val) (BitVec.ofNat 32 t.val) = if s.val < t.val then 1#1 else 0#1 := by
  have hs := s.isLt
  have ht := t.isLt
  have e : (BitVec.ofNat 32 s.val).slt (BitVec.ofNat 32 t.val) = decide (s.val < t.val) := by
    rw [BitVec.slt_eq_decide, BitVec.toInt_eq_toNat_of_lt (by rw [BitVec.toNat_ofNat]; omega), BitVec.toInt_eq_toNat_of_lt (by rw [BitVec.toNat_ofNat]; omega),
      BitVec.toNat_ofNat, BitVec.toNat_ofNat]
    rw [Nat.mod_eq_of_lt (by omega), Nat.mod_eq_of_lt (by omega)]
    exact decide_eq_decide.mpr (by rw [Nat.cast_lt])
  show (BitVec.ofBool _ : BitVec 1) = _
  rw [e]
  by_cases h : s.val < t.val
  · rw [if_pos h, decide_eq_true h]; rfl
  · rw [if_neg h, decide_eq_false h]; rfl

theorem mask_at (h : Fin 16) (t s : Fin 16384) : mask (ix3 h t s) = if s.val < t.val then 1#1 else 0#1 := by
  pointwise [mask]
  exact slt_word s t

/-- A masked entry. -/
theorem select_at (p : Prop) [Decidable p] (a b : EReal) : Scalar.select (if p then 1#1 else 0#1) a b = if p then a else b := by
  by_cases h : p
  · rw [if_pos h, if_pos h]; rfl
  · rw [if_neg h, if_neg h]; rfl

theorem two_bits : Ideal.ofBits FTy.f32 1073741824#32 = ((2 : ℝ) : EReal) := by
  simp [Ideal.ofBits, Ideal.ieee, -EReal.coe_mul]; norm_num

theorem spR_at (y : FVec Ideal S16x16384x16384 .f32) (h : Fin 16) (t s : Fin 16384) (a : ℝ) (ha : y (ix3 h t s) = (a : EReal)) :
    spR y (ix3 h t s) = ((spE a : ℝ) : EReal) := by
  pointwise [spR, zeros]
  rw [if_neg (not_not.mpr rfl), ha]
  have h1 : (FloatOps.absf (F := Ideal) (φ := .f32) (a : EReal) : EReal) = ((|a| : ℝ) : EReal) := abs_coe a
  have h3 : (1 : EReal) + ((Real.exp (-|a|) : ℝ) : EReal) = ((1 + Real.exp (-|a|) : ℝ) : EReal) := by rw [EReal.coe_add]; rfl
  rw [h1, ← EReal.coe_neg, exp_coe]
  show max (a : EReal) 0 + Ideal.log (1 + ((Real.exp (-|a|) : ℝ) : EReal)) = _
  rw [h3, log_coe _ (by positivity), show (0 : EReal) = ((0 : ℝ) : EReal) from rfl, coe_max', ← EReal.coe_add]
  rfl

/-- The projected array is finite: entry `(p, t, d)` is the real `X p t d`. -/
def IsReal (x : FVec Ideal S64x16384x128 .bf16) (X : ℕ → ℕ → Fin 128 → ℝ) : Prop :=
  ∀ (p : Fin 64) (t : Fin 16384) (d : Fin 128), x (ix3 p t d) = ((X p.val t.val d : ℝ) : EReal)

variable {x : FVec Ideal S64x16384x128 .bf16} {X : ℕ → ℕ → Fin 128 → ℝ}

theorem zR_at (hx : IsReal x X) (h : Fin 16) (t s : Fin 16384) :
    zR x (ix3 h t s) = ((zz (X h.val) (X (16 + h.val)) t.val s.val * Real.log 2 : ℝ) : EReal) := by
  pointwise [zR]
  rw [two_bits, log_coe _ (by norm_num), EReal.coe_mul]
  refine congrArg (· * _) ?_
  unfold zz; rw [coe_sum]
  refine Finset.sum_congr rfl fun d _ => ?_
  rw [hx, hx, EReal.coe_mul]

theorem keepR_at (hx : IsReal x X) (h : Fin 16) (t s : Fin 16384) :
    keepR x (ix3 h t s) = ((if s.val < t.val then -(sp (zz (X h.val) (X (16 + h.val)) t.val s.val) * Real.log 2) else 0 : ℝ) : EReal) := by
  pointwise [keepR]
  rw [mask_at]
  have hn : Host.negf (Host.negf (zR x)) (ix3 h t s) = ((zz (X h.val) (X (16 + h.val)) t.val s.val * Real.log 2 : ℝ) : EReal) := by
    pointwise
    rw [zR_at hx, neg_neg]
  rw [spR_at _ h t s _ hn, spE_eq, ← EReal.coe_neg]
  by_cases hs : s.val < t.val
  · rw [if_pos hs, if_pos hs]; rfl
  · rw [if_neg hs, if_neg hs]
    show (constant S_ FTy.f32 0#32 : FVec Ideal S_ .f32) ix0 = _
    pointwise
    rfl

/-- A sum over a row, by the row's reversal. -/
theorem sumR_at (y : FVec Ideal S16x16384x16384 .f32) (h : Fin 16) (t s : Fin 16384) :
    sumR y (ix3 h t s) = ∑ i : Fin 16384, if s.val ≤ i.val then y (ix3 h t i) else 0 := by
  pointwise [sumR]
  refine (congrArg (Host.reduceWindowAdd _ _ _ _ (Host.reverse [2] y) _ _ _) (show _ = ix3 h t s.rev from rfl)).trans ?_
  refine (cumsum_at (M := 16383) (Host.reverse [2] y) _ _ _ ?_ h t s.rev).trans ?_
  · pointwise
  · rw [← Equiv.sum_comp Fin.revPerm]
    refine Finset.sum_congr rfl fun i _ => ?_
    have hs := s.isLt
    have hi := i.isLt
    have hc : (Fin.revPerm i).val ≤ s.rev.val ↔ s.val ≤ i.val := by
      rw [Fin.revPerm_apply, Fin.val_rev, Fin.val_rev]; omega
    refine if_congr hc ?_ rfl
    rw [Fin.revPerm_apply]
    pointwise
    simp

/-- What the keys from `s` on took, in natural logarithms. -/
theorem later_at (hx : IsReal x X) (h : Fin 16) (t s : Fin 16384) :
    sumR (keepR x) (ix3 h t s) = ((-(tl (X h.val) (X (16 + h.val)) t.val s.val * Real.log 2) : ℝ) : EReal) := by
  rw [sumR_at]
  have ht := t.isLt
  have e : ∀ i : Fin 16384, (if s.val ≤ i.val then keepR x (ix3 h t i) else 0)
      = (((fun j : ℕ => if s.val ≤ j then (if j < t.val then -(sp (zz (X h.val) (X (16 + h.val)) t.val j) * Real.log 2) else 0) else 0) i.val : ℝ) : EReal) := fun i => by
    rw [keepR_at hx]
    by_cases hi : s.val ≤ i.val
    · rw [if_pos hi]; show _ = ((if _ then _ else _ : ℝ) : EReal); rw [if_pos hi]
    · rw [if_neg hi]; show _ = ((if _ then _ else _ : ℝ) : EReal); rw [if_neg hi]; rfl
  rw [Finset.sum_congr rfl fun i _ => e i, ← coe_sum, Fin.sum_univ_eq_sum_range (fun j : ℕ => if s.val ≤ j then (if j < t.val then -(sp (zz (X h.val) (X (16 + h.val)) t.val j) * Real.log 2) else 0) else 0)]
  unfold tl
  rw [Finset.sum_mul, ← Finset.sum_neg_distrib, ← Finset.sum_filter, ← Finset.sum_filter]
  refine congrArg _ (Finset.sum_congr ?_ fun _ _ => rfl)
  ext j
  simp only [Finset.mem_filter, Finset.mem_range, Finset.mem_Ico]
  omega

theorem wR_at (hx : IsReal x X) (h : Fin 16) (t s : Fin 16384) :
    wR x (ix3 h t s) = ((if s.val < t.val then wt (X h.val) (X (16 + h.val)) t.val s.val else 0 : ℝ) : EReal) := by
  pointwise [wR]
  rw [mask_at]
  by_cases hs : s.val < t.val
  · have hn : Host.negf (zR x) (ix3 h t s) = ((-(zz (X h.val) (X (16 + h.val)) t.val s.val * Real.log 2) : ℝ) : EReal) := by
      pointwise
      rw [zR_at hx, EReal.coe_neg]
    rw [spR_at _ h t s _ hn, later_at hx, keepR_at hx, if_pos hs, if_pos hs, if_pos hs, ← EReal.coe_neg, ← EReal.coe_sub, ← EReal.coe_add, exp_coe, weight_eq]
    rfl
  · rw [if_neg hs, if_neg hs]
    show (constant S_ FTy.f32 0#32 : FVec Ideal S_ .f32) ix0 = _
    pointwise
    rfl

/-- The reference is stick-breaking attention over the earlier keys, gated. -/
theorem outR_at (hx : IsReal x X) (t : Fin 16384) (j : Fin 2048) :
    outR x (ix2 t j) = ((acc (X (j.val / 128)) (X (16 + j.val / 128)) (X (32 + j.val / 128)) t.val 0 ⟨j.val % 128, Nat.mod_lt _ (by norm_num)⟩
      * gate (X (48 + j.val / 128) t.val ⟨j.val % 128, Nat.mod_lt _ (by norm_num)⟩) : ℝ) : EReal) := by
  have ht := t.isLt
  have hj := j.isLt
  have e : ∀ s : Fin 16384, wR x (ix3 ⟨j.val / 128, by omega⟩ t s) * x (ix3 ⟨32 + j.val / 128, by omega⟩ s ⟨j.val % 128, Nat.mod_lt _ (by norm_num)⟩)
      = (((fun s : ℕ => if s < t.val then wt (X (j.val / 128)) (X (16 + j.val / 128)) t.val s * X (32 + j.val / 128) s ⟨j.val % 128, Nat.mod_lt _ (by norm_num)⟩ else 0) s.val : ℝ) : EReal) := fun s => by
    rw [wR_at hx, hx, ← EReal.coe_mul]
    refine congrArg _ ?_
    show (if _ then _ else _) * _ = if _ then _ else _
    rw [ite_mul, zero_mul]
  have hs : ∑ s : Fin 16384, wR x (ix3 ⟨j.val / 128, by omega⟩ t s) * x (ix3 ⟨32 + j.val / 128, by omega⟩ s ⟨j.val % 128, Nat.mod_lt _ (by norm_num)⟩)
      = ((acc (X (j.val / 128)) (X (16 + j.val / 128)) (X (32 + j.val / 128)) t.val 0 ⟨j.val % 128, Nat.mod_lt _ (by norm_num)⟩ : ℝ) : EReal) := by
    refine (Finset.sum_congr rfl fun s _ => e s).trans ?_
    rw [← coe_sum, Fin.sum_univ_eq_sum_range (fun s : ℕ => if s < t.val then wt (X (j.val / 128)) (X (16 + j.val / 128)) t.val s * X (32 + j.val / 128) s ⟨j.val % 128, Nat.mod_lt _ (by norm_num)⟩ else 0)]
    unfold acc
    rw [← Finset.sum_filter]
    refine congrArg _ (Finset.sum_congr ?_ fun _ _ => rfl)
    ext s
    simp only [Finset.mem_filter, Finset.mem_range, Finset.mem_Ico]
    omega
  pointwise [outR]
  rw [hx, EReal.coe_mul]
  have h3 : ∀ y : ℝ, (1 : EReal) + ((y : ℝ) : EReal) = ((1 + y : ℝ) : EReal) := fun y => by rw [EReal.coe_add]; rfl
  have hg : ∀ y : ℝ, (y : EReal) * Ideal.div 1 (1 + Ideal.exp (-(y : EReal))) = ((gate y : ℝ) : EReal) := fun y => by
    rw [← EReal.coe_neg, exp_coe, h3, show (1 : EReal) = ((1 : ℝ) : EReal) from rfl, Ideal.div_coe (by positivity), ← EReal.coe_mul, ← EReal.coe_mul]
    unfold gate; ring_nf
  rw [hg]
  rw [hs]

end Cert.Proof.R

end
-- ==== Proof.Algebraic.lean ====
module

public import proofs.«01_k».proof.Defs
public import proofs.«01_k».proof.Proof.K.Blocks
public import proofs.«01_k».proof.Proof.R.Ref
public import proofs.«01_k».proof.Proof.Gen.Pre_finite
public import Idealize.ShloMosaic.Lib.ReduceAll
public import Idealize.ShloMosaic.Lib.Quiescent

/-! # Kernel against reference

A finite projected array is an array of reals; on it the kernel's output and the reference's are the same reals. -/

@[expose] public section

set_option maxRecDepth 16384

noncomputable section

namespace Cert.Proof

open Idealize.ShloMosaic Idealize.ShloMosaic.TcCoe Idealize.SL.Sem

theorem inf_bits : Ideal.ofBits FTy.f32 0x7F800000#32 = ⊤ := by
  simp [Ideal.ofBits, Ideal.ieee]

/-- The reals behind a finite array. -/
def reals (x : FVec Ideal Cert.Pre_finite.S64x16384x128 .bf16) (p t : ℕ) (d : Fin 128) : ℝ :=
  if h : p < 64 ∧ t < 16384 then EReal.toReal (x (ix3 (⟨p, h.1⟩ : Fin 64) (⟨t, h.2⟩ : Fin 16384) d)) else 0

theorem finite_at (x : FVec Ideal Cert.Pre_finite.S64x16384x128 .bf16) (h : Cert.Pre_finite.fn (F := Ideal) x = fun _ => 1#1)
    (p : Fin 64) (t : Fin 16384) (d : Fin 128) : x (ix3 p t d) = ((reals x p.val t.val d : ℝ) : EReal) := by
  have h0 := congrFun h (ix0)
  dsimp only [Cert.Pre_finite.fn] at h0
  haveI : Subsingleton Cert.Pre_finite.S_.Idx := ⟨fun a b => funext fun i => i.elim0⟩
  have h1 := Host.reduce_andi_all _ _ _ _ _ h0 (ix3 p t d)
  pointwise at h1
  rw [inf_bits] at h1
  have h2 : max (x (ix3 p t d)) (-(x (ix3 p t d))) < (⊤ : EReal) := by
    by_contra hn
    have h3 : BitVec.ofBool (decide (max (x (ix3 p t d)) (-(x (ix3 p t d))) < (⊤ : EReal))) = 1#1 := h1
    rw [decide_eq_false hn] at h3
    exact absurd h3 (by decide)
  have ht : x (ix3 p t d) ≠ ⊤ := fun e => absurd (lt_of_le_of_lt (le_max_left _ _) h2) (by rw [e]; exact lt_irrefl _)
  have hb : x (ix3 p t d) ≠ ⊥ := fun e =>
    absurd (lt_of_le_of_lt (le_max_right _ _) h2) (by rw [e, EReal.neg_bot]; exact lt_irrefl _)
  rw [reals, dif_pos ⟨p.isLt, t.isLt⟩]
  exact (EReal.coe_toReal ht hb).symm

/-- The two programs' results agree. -/
theorem algebraic : Cert.algebraic_KernelIdeal_ReferenceIdeal_pre_finite := by
  intro m g m' g' hpre hagree
  have hx : ∀ c, K.IsRealK m c (reals (m ((c : Thread Cert.KernelIdeal.nD Cert.KernelIdeal.τ).loc Cert.KernelIdeal.main_arg0))) := fun c p t d => finite_at _ (hpre c) p t d
  refine ⟨fun c => (K.dats m g 0 c).arrAt 7 (Cert.KernelIdeal.cfg0 (F := Ideal)).N, ?_, ?_⟩
  · exact (θ_run Cert.KernelIdeal.defs _ _).mono (fun _ h => h.1) (K.run_main m g)
  · refine (θ_run Cert.ReferenceIdeal.defs _ _).mono (fun _ h c => ⟨(h c).1.trans ?_, (h c).2⟩) (Cert.ReferenceIdeal.Value.run (F := Ideal) m' g')
    rw [R.res_eq, hagree c]
    refine Eq.trans ?_ (K.arr_real (ρ := g) (hx c)).symm
    funext y
    refine (congrArg (R.outR _) (show y = ix2 (y 0) (y 1) from funext fun a => by
      match a with
      | ⟨0, _⟩ => rfl
      | ⟨1, _⟩ => rfl)).trans ?_
    exact R.outR_at (hx c) (y 0) (y 1)

/-- The constants' names. -/
theorem preserves : Cert.preserves_Kernel_KernelIdeal :=
  ⟨IdealRules.named_const.statement Cert.KernelIdeal.κ "log2e" .f32 0x3FB8AA3B#32 (((Real.log 2)⁻¹ : ℝ) : EReal) rfl,
   IdealRules.named_const.statement Cert.KernelIdeal.κ "no_underflow" .f32 0x43170000#32 ⊤ rfl,
   IdealRules.named_const.statement Cert.KernelIdeal.κ "neg_log2e" .f32 0xBFB8AA3B#32 ((-((Real.log 2)⁻¹) : ℝ) : EReal) rfl⟩

theorem frame_pi : Cert.quiescent_KernelIdeal := fun m g _ =>
  (θ_run Cert.KernelIdeal.defs _ _).mono (fun _ h => ⟨fun c => (h.1 c).2, h.2⟩) (K.run_main m g)

theorem frame_pi_finite : Cert.quiescent_KernelIdeal_pre_finite := fun m g _ => frame_pi m g trivial

theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem frame_ri_finite : Cert.quiescent_ReferenceIdeal_pre_finite := fun m g _ => frame_ri m g trivial

end Cert.Proof

end
-- ==== Proof.InProj.Block.lean ====
module

public import proofs.«01_k».proof.Proof.Gen.Kernel2Ideal.Value
public import Idealize.ShloMosaic.Lib.Pipeline.ValueKit
public import Idealize.ShloMosaic.Lib.Pointwise

/-! # What one grid point of the projection computes

The body multiplies its rows of the input with its columns of the weights, scales each column, and stores the eight
128-column tiles of the product into the eight planes of its output block. -/

@[expose] public section

set_option maxRecDepth 16384

noncomputable section

namespace Cert.Proof.InProj

open Cert.Kernel2Ideal Cert.Kernel2Ideal.Gen
open Idealize.ShloMosaic Idealize.ShloMosaic.TcCoe
open Idealize.SL.Sem

/-- Column `d` of plane `h`. -/
abbrev col (h : Fin 8) (d : Fin 128) : Fin 1024 := ⟨128 * h.val + d.val, by have := h.isLt; have := d.isLt; omega⟩

/-- One entry of the scaled product. -/
def entry (a : Vec Ideal S1024x2048 .bf16) (w : Vec Ideal S2048x1024 .bf16) (s : Vec Ideal S1x1024 .f32) (r c : Fin 1024) : EReal :=
  (∑ k : Fin 2048, a (ix2 r k) * w (ix2 k c)) * s (ix2 0 c)

/-- The output block. -/
def block (a : Vec Ideal S1024x2048 .bf16) (w : Vec Ideal S2048x1024 .bf16) (s : Vec Ideal S1x1024 .f32) : Vec Ideal S8x1024x128 .bf16 :=
  fun y => entry a w s (y 1) (col (y 0) (y 2))

theorem pay6_at (a : Vec Ideal S1024x2048 .bf16) (w : Vec Ideal S2048x1024 .bf16) (s : Vec Ideal S1x1024 .f32) (y : S1024x1024.Idx) :
    k0_pay6 a w s y = entry a w s (y 0) (y 1) := by
  pointwise [k0_pay6, entry]

theorem pay5_eq (x : Vec Ideal S1024x2048 .f32) : k0_pay5 x = x := by
  funext y
  pointwise [k0_pay5]

theorem inb (h : Fin 8) : ∀ a, (![h.val, 0, 0] : Fin 3 → ℕ) a + S1x1024x128.size a ≤ S8x1024x128.size a := by
  intro a; have := h.isLt; fin_cases a <;> simp [Shape.size] <;> omega

/-- Plane `h` of the output block. -/
abbrev plane (h : Fin 8) : Rect S8x1024x128 := Rect.unit (s := S8x1024x128) ![h.val, 0, 0] S1x1024x128.size (inb h)

theorem block_plane (a : Vec Ideal S1024x2048 .bf16) (w : Vec Ideal S2048x1024 .bf16) (s : Vec Ideal S1x1024 .f32) (h : Fin 8) (j : S1x1024x128.Idx) :
    block a w s ((plane h).emb j) = entry a w s (j 1) (col h (j 2)) := by
  have h0 : (j 0).val < 1 := (j 0).isLt
  have e0 : ((plane h).emb j 0).val = h.val + 1 * (j 0).val := rfl
  have e1 : ((plane h).emb j 1).val = 0 + 1 * (j 1).val := rfl
  have e2 : ((plane h).emb j 2).val = 0 + 1 * (j 2).val := rfl
  have r1 : (plane h).emb j 1 = j 1 := Fin.ext (by omega)
  have r2 : col ((plane h).emb j 0) ((plane h).emb j 2) = col h (j 2) :=
    Fin.ext (by show 128 * ((plane h).emb j 0).val + ((plane h).emb j 2).val = 128 * h.val + (j 2).val; omega)
  show entry a w s ((plane h).emb j 1) (col ((plane h).emb j 0) ((plane h).emb j 2)) = _
  rw [r1, r2]

variable (a : Vec Ideal S1024x2048 .bf16) (w : Vec Ideal S2048x1024 .bf16) (s : Vec Ideal S1x1024 .f32) (j : S1x1024x128.Idx)

theorem tile0 : k0_pay7 a w s j = block a w s ((plane 0).emb j) := by
  rw [block_plane]
  pointwise [k0_pay7, pay6_at]
  exact congrArg (entry a w s (j 1)) (Fin.ext (by show (j 2).val = 128 * 0 + (j 2).val; omega))

theorem tile1 : k0_pay8 a w s j = block a w s ((plane 1).emb j) := by
  rw [block_plane]
  pointwise [k0_pay8, pay6_at]
  exact congrArg (entry a w s (j 1)) (Fin.ext (by show 128 + (j 2).val = 128 * 1 + (j 2).val; omega))

theorem tile2 : k0_pay9 a w s j = block a w s ((plane 2).emb j) := by
  rw [block_plane]
  pointwise [k0_pay9, pay6_at]
  exact congrArg (entry a w s (j 1)) (Fin.ext (by show 256 + (j 2).val = 128 * 2 + (j 2).val; omega))

theorem tile3 : k0_pay10 a w s j = block a w s ((plane 3).emb j) := by
  rw [block_plane]
  pointwise [k0_pay10, pay6_at]
  exact congrArg (entry a w s (j 1)) (Fin.ext (by show 384 + (j 2).val = 128 * 3 + (j 2).val; omega))

theorem tile4 : k0_pay1 (k0_pay11 a w s) j = block a w s ((plane 4).emb j) := by
  rw [block_plane]
  pointwise [k0_pay1, k0_pay11, pay6_at]
  exact congrArg (entry a w s (j 1)) (Fin.ext (by show 512 + (j 2).val = 128 * 4 + (j 2).val; omega))

theorem tile5 : k0_pay2 (k0_pay6 a w s) j = block a w s ((plane 5).emb j) := by
  rw [block_plane]
  pointwise [k0_pay2, pay6_at]
  exact congrArg (entry a w s (j 1)) (Fin.ext (by show 640 + (j 2).val = 128 * 5 + (j 2).val; omega))

theorem tile6 : k0_pay3 (k0_pay6 a w s) j = block a w s ((plane 6).emb j) := by
  rw [block_plane]
  pointwise [k0_pay3, pay6_at]
  exact congrArg (entry a w s (j 1)) (Fin.ext (by show 768 + (j 2).val = 128 * 6 + (j 2).val; omega))

theorem tile7 : k0_pay4 (k0_pay6 a w s) j = block a w s ((plane 7).emb j) := by
  rw [block_plane]
  pointwise [k0_pay4, pay6_at]
  exact congrArg (entry a w s (j 1)) (Fin.ext (by show 896 + (j 2).val = 128 * 7 + (j 2).val; omega))

omit a w s j

/-- At the other points, of the rows kept by the point before. -/
theorem out_B (c : Dev nD) (i : grid0.Coords) (a2 : Memref sig .tc .vmem S1024x2048 .f32) (h2 : a2.IsWhole) (a3 : Memref sig .tc .vmem S2048x1024 .bf16) (h3 : a3.IsWhole)
    (a4 : Memref sig .tc .vmem S1x1024 .f32) (h4 : a4.IsWhole) (a5 : Memref sig .tc .vmem S8x1024x128 .bf16) (h5 : a5.IsWhole) (a6 : Memref sig .tc .vmem S1024x2048 .bf16) (h6 : a6.IsWhole)
    (hc : ¬cond0_0 i) (x0 : Vec Ideal S1024x2048 .f32) (x1 : Vec Ideal S2048x1024 .bf16) (x2 : Vec Ideal S1x1024 .f32) (xs : Vec Ideal S1024x2048 .bf16) :
    out0_B_3 c i a2 h2 a3 h3 a4 h4 a5 h5 a6 h6 hc x0 x1 x2 xs = block xs x1 x2 := by
  funext y
  have hcov := cover0_B_3 c i a2 h2 a3 h3 a4 h4 a5 h5 a6 h6 hc x0 x1 x2 xs y
  frame_out at hcov ⊢
  refine View.canon_apply_of_pieces (block xs x1 x2) _ (fun p hp j => ?_) y hcov
  simp only [List.mem_cons, List.mem_nil_iff, or_false] at hp
  rcases hp with rfl | rfl | rfl | rfl | rfl | rfl | rfl | rfl
  · exact tile7 xs x1 x2 j
  · exact tile6 xs x1 x2 j
  · exact tile5 xs x1 x2 j
  · exact tile4 xs x1 x2 j
  · exact tile3 xs x1 x2 j
  · exact tile2 xs x1 x2 j
  · exact tile1 xs x1 x2 j
  · exact tile0 xs x1 x2 j

/-- At the first point of a row block, of the rows staged. -/
theorem out_A (c : Dev nD) (i : grid0.Coords) (a2 : Memref sig .tc .vmem S1024x2048 .f32) (h2 : a2.IsWhole) (a3 : Memref sig .tc .vmem S2048x1024 .bf16) (h3 : a3.IsWhole)
    (a4 : Memref sig .tc .vmem S1x1024 .f32) (h4 : a4.IsWhole) (a5 : Memref sig .tc .vmem S8x1024x128 .bf16) (h5 : a5.IsWhole) (a6 : Memref sig .tc .vmem S1024x2048 .bf16) (h6 : a6.IsWhole)
    (hc : cond0_0 i) (x0 : Vec Ideal S1024x2048 .f32) (x1 : Vec Ideal S2048x1024 .bf16) (x2 : Vec Ideal S1x1024 .f32) :
    out0_A_3 c i a2 h2 a3 h3 a4 h4 a5 h5 a6 h6 hc x0 x1 x2  = block x0 x1 x2 := by
  funext y
  have hcov := cover0_A_3 c i a2 h2 a3 h3 a4 h4 a5 h5 a6 h6 hc x0 x1 x2  y
  frame_out at hcov ⊢
  rw [pay5_eq] at hcov ⊢
  refine View.canon_apply_of_pieces (block x0 x1 x2) _ (fun p hp j => ?_) y hcov
  simp only [List.mem_cons, List.mem_nil_iff, or_false] at hp
  rcases hp with rfl | rfl | rfl | rfl | rfl | rfl | rfl | rfl
  · exact tile7 x0 x1 x2 j
  · exact tile6 x0 x1 x2 j
  · exact tile5 x0 x1 x2 j
  · exact tile4 x0 x1 x2 j
  · exact tile3 x0 x1 x2 j
  · exact tile2 x0 x1 x2 j
  · exact tile1 x0 x1 x2 j
  · exact tile0 x0 x1 x2 j

/-- The rows the first point keeps for the others: those staged. -/
theorem sout_A (c : Dev nD) (i : grid0.Coords) (a2 : Memref sig .tc .vmem S1024x2048 .f32) (h2 : a2.IsWhole) (a3 : Memref sig .tc .vmem S2048x1024 .bf16) (h3 : a3.IsWhole)
    (a4 : Memref sig .tc .vmem S1x1024 .f32) (h4 : a4.IsWhole) (a5 : Memref sig .tc .vmem S8x1024x128 .bf16) (h5 : a5.IsWhole) (a6 : Memref sig .tc .vmem S1024x2048 .bf16) (h6 : a6.IsWhole)
    (hc : cond0_0 i) (x0 : Vec Ideal S1024x2048 .f32) (x1 : Vec Ideal S2048x1024 .bf16) (x2 : Vec Ideal S1x1024 .f32) :
    sout0_A_0 c i a2 h2 a3 h3 a4 h4 a5 h5 a6 h6 hc x0 x1 x2 = x0 := by
  frame_out
  exact pay5_eq x0

end Cert.Proof.InProj

end
-- ==== Proof.InProj.Array.lean ====
module

public import proofs.«01_k».proof.Proof.InProj.Block

/-! # The projection's array after the run

Eight points share a row block: the first keeps the rows it staged and the seven after it compute with the rows kept. So
every point computes with its own rows, and the output is assembled from the points' blocks. -/

@[expose] public section

set_option maxRecDepth 16384

noncomputable section

namespace Cert.Proof.InProj

open Cert.Kernel2Ideal Cert.Kernel2Ideal.Gen Cert.Kernel2Ideal.Value
open Idealize.ShloMosaic Idealize.ShloMosaic.TcCoe
open Idealize.SL.Sem
open Idealize.ShloMosaic.Pipeline (Dat)

variable (m : (ℓ : Loc nD τ sig) → Buf (Elt Ideal) ℓ) (c : Dev nD)

theorem idx : ∀ t : Fin grid0.N, win0_0.index t = ![t.val / 8, 0] ∧ win0_1.index t = ![0, t.val % 8] ∧ win0_2.index t = ![0, t.val % 8]
    ∧ win0_3.index t = ![t.val % 8, t.val / 8, 0] := by decide +kernel

/-- The weights as the host passes them on: without the axis of length one. -/
theorem V_w : V m c main_v4 = (truncf .bf16 (shapeCast S2048x8192 (m ((c : Thread nD τ).loc main_arg1) : FVec Ideal S1x2048x8192 .f32) shapeCasts_S1x2048x8192_S2048x8192 : FVec Ideal S2048x8192 .f32) bitsLt_bf16_f32) := by
  unfold V
  after_results
  rfl

theorem w_pt (x : FVec Ideal S1x2048x8192 .f32) (k : Fin 2048) (j : Fin 8192) :
    (truncf .bf16 (shapeCast S2048x8192 x shapeCasts_S1x2048x8192_S2048x8192 : FVec Ideal S2048x8192 .f32) bitsLt_bf16_f32 : FVec Ideal S2048x8192 .bf16) (ix2 k j) = x (ix3 0 k j) := by
  pointwise

theorem w_at (k : Fin 2048) (j : Fin 8192) : (V m c main_v4 : S2048x8192.Idx → EReal) (ix2 k j) = (m ((c : Thread nD τ).loc main_arg1) : S1x2048x8192.Idx → EReal) (ix3 0 k j) :=
  (congrFun (V_w m c) (ix2 k j)).trans (w_pt _ k j)

/-- The scale of column `j`: the constant for the queries' columns, one for the others. -/
def scale (j : Fin 8192) : EReal := if j.val < 2048 then Ideal.ofBits .f32 0x3E0293EE#32 else 1

theorem scale_at (j : Fin 8192) : (V m c main_v2 : S1x8192.Idx → EReal) (ix2 0 j) = scale j := by
  unfold V
  after_results
  pointwise
  rfl

theorem rows (t : Fin cfg0.N) (ht : t.val % 8 ≠ 0) (h : t.val - 1 < cfg0.N) : (iblk m c 0 ⟨t.val - 1, h⟩ : S1024x2048.Idx → EReal) = iblk m c 0 t := by
  have e : (t.val - 1) / 8 = t.val / 8 := by omega
  funext y
  blk_ext [iblk, idx t, idx ⟨t.val - 1, h⟩]

theorem kept_A (t : Fin cfg0.N) (h0 : t.val % 8 = 0) : (outsAt0 m c t.val t.isLt).2 = iblk m c 0 t := by
  rw [outsAt0_A m c t h0]
  dsimp only
  exact sout_A ..

theorem kept_B (t : Fin cfg0.N) (h0 : ¬t.val % 8 = 0) : (outsAt0 m c t.val t.isLt).2 = (outsAt0 m c (t.val - 1) (Nat.lt_of_le_of_lt (Nat.sub_le _ _) t.isLt)).2 := by
  rw [outsAt0_B m c t h0]
  dsimp only
  unfold sout0_B_0
  rfl

/-- After every point, the rows kept are the point's own. -/
theorem kept : ∀ (n : ℕ) (t : Fin cfg0.N), t.val = n → (outsAt0 m c t.val t.isLt).2 = iblk m c 0 t
  | 0, t, h => kept_A m c t (by rw [h])
  | n + 1, t, h => by
    by_cases h0 : t.val % 8 = 0
    · exact kept_A m c t h0
    · have hl : t.val - 1 < cfg0.N := Nat.lt_of_le_of_lt (Nat.sub_le _ _) t.isLt
      rw [kept_B m c t h0, ← rows m c t h0 hl]
      exact kept n ⟨t.val - 1, hl⟩ (by show t.val - 1 = n; omega)

/-- What every point leaves in its output block. -/
theorem out_at (t : Fin cfg0.N) : (outsAt0 m c t.val t.isLt).1 = block (iblk m c 0 t) (iblk m c 1 t) (iblk m c 2 t) := by
  by_cases h0 : t.val % 8 = 0
  · rw [outsAt0_A m c t h0]
    dsimp only
    exact out_A ..
  · have hl : t.val - 1 < cfg0.N := Nat.lt_of_le_of_lt (Nat.sub_le _ _) t.isLt
    rw [← rows m c t h0 hl, ← kept m c (t.val - 1) ⟨t.val - 1, hl⟩ rfl, outsAt0_B m c t h0]
    dsimp only
    exact out_B ..

/-- Column `d` of head plane `p`. -/
abbrev colW (p : Fin 64) (d : Fin 128) : Fin 8192 := ⟨128 * p.val + d.val, by have := p.isLt; have := d.isLt; omega⟩

/-- The projected array: plane `p`, row `t`, column `d`. -/
def proj (x : S16384x2048.Idx → EReal) (w : S1x2048x8192.Idx → EReal) : S64x16384x128.Idx → EReal :=
  fun y => (∑ k : Fin 2048, x (ix2 (y 1) k) * w (ix3 0 k (colW (y 0) (y 2)))) * scale (colW (y 0) (y 2))

theorem lt_N (t : Fin cfg0.N) : t.val < 128 := t.isLt

theorem blk_x (t : Fin cfg0.N) (r : Fin 1024) (k : Fin 2048) : (iblk m c 0 t : S1024x2048.Idx → EReal) (ix2 r k)
    = (V m c main_arg0 : S16384x2048.Idx → EReal) (ix2 (⟨1024 * (t.val / 8) + r.val, by have := lt_N t; omega⟩ : Fin 16384) k) := by
  blk_ext [iblk, idx t]

theorem blk_w (t : Fin cfg0.N) (k : Fin 2048) (j : Fin 1024) : (iblk m c 1 t : S2048x1024.Idx → EReal) (ix2 k j)
    = (V m c main_v4 : S2048x8192.Idx → EReal) (ix2 k (⟨1024 * (t.val % 8) + j.val, by omega⟩ : Fin 8192)) := by
  blk_ext [iblk, idx t]

theorem blk_s (t : Fin cfg0.N) (j : Fin 1024) : (iblk m c 2 t : S1x1024.Idx → EReal) (ix2 0 j)
    = (V m c main_v2 : S1x8192.Idx → EReal) (ix2 0 (⟨1024 * (t.val % 8) + j.val, by omega⟩ : Fin 8192)) := by
  blk_ext [iblk, idx t]

/-- A point's block, cut out of the projected array. -/
theorem block_at (t : Fin cfg0.N) (y : S8x1024x128.Idx) (z : S64x16384x128.Idx) (h0 : (z 0).val = 8 * (t.val % 8) + (y 0).val)
    (h1 : (z 1).val = 1024 * (t.val / 8) + (y 1).val) (h2 : (z 2).val = (y 2).val) :
    block (iblk m c 0 t) (iblk m c 1 t) (iblk m c 2 t) y
      = proj (m ((c : Thread nD τ).loc main_arg0)) (m ((c : Thread nD τ).loc main_arg1)) z := by
  have l0 : (y 0).val < 8 := (y 0).isLt
  have l2 : (y 2).val < 128 := (y 2).isLt
  have ec : (⟨1024 * (t.val % 8) + (col (y 0) (y 2)).val, by have := (col (y 0) (y 2)).isLt; omega⟩ : Fin 8192) = colW (z 0) (z 2) :=
    Fin.ext (by show 1024 * (t.val % 8) + (128 * (y 0).val + (y 2).val) = 128 * (z 0).val + (z 2).val; omega)
  have er : (⟨1024 * (t.val / 8) + (y 1).val, by have := lt_N t; have : (y 1).val < 1024 := (y 1).isLt; omega⟩ : Fin 16384) = z 1 := Fin.ext h1.symm
  unfold block proj entry
  rw [blk_s, scale_at, ec]
  refine congrArg (fun z : EReal => z * scale _) (Finset.sum_congr rfl fun k _ => ?_)
  have ex : (iblk m c 0 t : S1024x2048.Idx → EReal) (ix2 (y 1) k) = (m ((c : Thread nD τ).loc main_arg0) : S16384x2048.Idx → EReal) (ix2 (z 1) k) :=
    (blk_x m c t (y 1) k).trans ((congrFun (V_main_arg0 m c) _).trans (congrArg (fun i : Fin 16384 => (m ((c : Thread nD τ).loc main_arg0) : S16384x2048.Idx → EReal) (ix2 i k)) er))
  have ew : (iblk m c 1 t : S2048x1024.Idx → EReal) (ix2 k (col (y 0) (y 2))) = (m ((c : Thread nD τ).loc main_arg1) : S1x2048x8192.Idx → EReal) (ix3 0 k (colW (z 0) (z 2))) :=
    (blk_w m c t k (col (y 0) (y 2))).trans ((w_at m c k _).trans (congrArg (fun j : Fin 8192 => (m ((c : Thread nD τ).loc main_arg1) : S1x2048x8192.Idx → EReal) (ix3 0 k j)) ec))
  exact congrArg₂ (fun a b : EReal => a * b) ex ew

/-- The projected array after the run. -/
theorem arr_eq : (dats m 0 c).arrAt 3 cfg0.N = proj (m ((c : Thread nD τ).loc main_arg0)) (m ((c : Thread nD τ).loc main_arg1)) := by
  refine (dats m 0 c).arrAt_eq_of_covers 3 _ (by decide +kernel) fun t _ y => ?_
  blk_simp
  rw [after0_3, out_at]
  obtain ⟨-, -, -, e3⟩ := idx t
  have h0 : win0_3.index t 0 = t.val % 8 := congrFun e3 0
  have h1 : win0_3.index t 1 = t.val / 8 := congrFun e3 1
  have h2 : win0_3.index t 2 = 0 := congrFun e3 2
  refine block_at m c t y _ ?_ ?_ ?_
  · show win0_3.index t 0 * 8 + 1 * (y 0).val = _
    omega
  · show win0_3.index t 1 * 1024 + 1 * (y 1).val = _
    omega
  · show win0_3.index t 2 * 128 + 1 * (y 2).val = _
    omega

end Cert.Proof.InProj

end
-- ==== Proof.InProj.Ref.lean ====
module

public import proofs.«01_k».proof.Proof.Gen.Reference2Ideal.Read
public import proofs.«01_k».proof.Proof.InProj.Array

/-! # The reference's projection at an index -/

@[expose] public section

set_option maxRecDepth 16384

noncomputable section

namespace Cert.Proof.InProj

open Cert.Reference2Ideal Cert.Reference2Ideal.Read
open Idealize.ShloMosaic Idealize.ShloMosaic.TcCoe
open Idealize.SL.Sem

variable (x : FVec Ideal S16384x2048 .f32) (w : FVec Ideal S1x2048x8192 .f32)

/-- The product before the split. -/
theorem dot_at (t : Fin 16384) (j : Fin 8192) : val_main_v1 (F := Ideal) x w (ix2 t j) = ∑ k : Fin 2048, x (ix2 t k) * w (ix3 0 k j) := by
  pointwise [val_main_v1, val_main_v0]

/-- The columns of the queries are scaled, the others are not. -/
theorem scaled_at (t : Fin 16384) (j : Fin 8192) : val_main_v8 (F := Ideal) x w (ix2 t j) = val_main_v1 (F := Ideal) x w (ix2 t j) * scale j := by
  have hj := j.isLt
  pointwise [val_main_v8, val_main_v7, val_main_v2, val_main_v3, val_main_v4, val_main_v5, val_main_v6, val_main_cst]
  unfold scale
  by_cases h : j.val < 2048
  · rw [dif_pos h, if_pos h]
  · rw [dif_neg h, if_neg h, mul_one]
    split_ifs
    all_goals exact congrArg (fun i : Fin 8192 => val_main_v1 (F := Ideal) x w (ix2 t i)) (Fin.ext (by dsimp only; omega))

theorem ref_eq : val_main_v11 (F := Ideal) x w = proj x w := by
  funext y
  have e : val_main_v11 (F := Ideal) x w y = val_main_v8 (F := Ideal) x w (ix2 (y 1) (colW (y 0) (y 2))) := by
    pointwise [val_main_v11, val_main_v10, val_main_v9]
    exact congrArg (fun i : Fin 8192 => val_main_v8 (F := Ideal) x w (ix2 (y 1) i)) (Fin.ext (by show (y 0).val * 128 + (y 2).val = 128 * (y 0).val + (y 2).val; omega))
  exact e.trans ((scaled_at x w (y 1) (colW (y 0) (y 2))).trans (congrArg (fun z : EReal => z * scale (colW (y 0) (y 2))) (dot_at x w (y 1) (colW (y 0) (y 2)))))

end Cert.Proof.InProj

end
-- ==== Proof.OutProj.Norm.lean ====
module

public import Idealize.ShloMosaic.PureOps.Ideal.Laws

/-! # The normalization of one row, in words

A row is normalized by its mean and its mean square deviation, then scaled and shifted column by column. -/

@[expose] public section

noncomputable section

namespace Cert.Proof.OutProj

open Idealize.ShloMosaic

/-- The row before the normalization: the scaled input plus the product of the attention's row with the weights. -/
def pre (a : Fin 2048 → EReal) (w : Fin 2048 → Fin 2048 → EReal) (x : Fin 2048 → EReal) (c : Fin 2048) : EReal :=
  Ideal.ofBits .f32 0x3FB504F3#32 * x c + ∑ k : Fin 2048, a k * w k c

/-- The mean of a row. -/
def mean (p : Fin 2048 → EReal) : EReal := Ideal.div (∑ k : Fin 2048, p k) (Ideal.ofBits .f32 0x45000000#32)

/-- The row less its mean. -/
def centred (p : Fin 2048 → EReal) (c : Fin 2048) : EReal := p c - mean p

/-- The normalized row, scaled by `g` and shifted by `b`. -/
def norm (p g b : Fin 2048 → EReal) (c : Fin 2048) : EReal :=
  centred p c * Ideal.rsqrt (mean (fun k => centred p k * centred p k) + Ideal.ofBits .f32 0x3727C5AC#32) * g c + b c

end Cert.Proof.OutProj

end
-- ==== Proof.OutProj.Block.lean ====
module

public import proofs.«01_k».proof.Proof.Gen.Kernel3Ideal.Value
public import proofs.«01_k».proof.Proof.OutProj.Norm
public import Idealize.ShloMosaic.Lib.Pipeline.ValueKit
public import Idealize.ShloMosaic.Lib.Pointwise

/-! # What one grid point of the output projection computes

The body takes its rows 128 at a time: it adds the scaled input to the product with the weights and normalizes each row. -/

@[expose] public section

set_option maxRecDepth 16384

noncomputable section

namespace Cert.Proof.OutProj

open Cert.Kernel3Ideal Cert.Kernel3Ideal.Gen
open Idealize.ShloMosaic Idealize.ShloMosaic.TcCoe
open Idealize.SL.Sem

/-- The output block: every row normalized. -/
def block (a : Vec Ideal S1024x2048 .bf16) (w : Vec Ideal S2048x2048 .bf16) (x : Vec Ideal S1024x2048 .f32) (g b : Vec Ideal S1x2048 .f32) : Vec Ideal S1024x2048 .f32 :=
  fun y => norm (pre (fun k => a (ix2 (y 0) k)) (fun k c => w (ix2 k c)) (fun k => x (ix2 (y 0) k))) (fun k => g (ix2 0 k)) (fun k => b (ix2 0 k)) (y 1)

/-- A tile of 128 rows. -/
def tile (a : Vec Ideal S128x2048 .bf16) (w : Vec Ideal S2048x2048 .bf16) (x : Vec Ideal S128x2048 .f32) (g b : Vec Ideal S1x2048 .f32) : Vec Ideal S128x2048 .f32 :=
  fun y => norm (pre (fun k => a (ix2 (y 0) k)) (fun k c => w (ix2 k c)) (fun k => x (ix2 (y 0) k))) (fun k => g (ix2 0 k)) (fun k => b (ix2 0 k)) (y 1)

theorem inb (h : Fin 8) : ∀ a, (![128 * h.val, 0] : Fin 2 → ℕ) a + S128x2048.size a ≤ S1024x2048.size a := by
  intro a; have := h.isLt; fin_cases a <;> simp [Shape.size] <;> omega

/-- The rows of tile `h`. -/
abbrev rows (h : Fin 8) : Rect S1024x2048 := Rect.unit (s := S1024x2048) ![128 * h.val, 0] S128x2048.size (inb h)

theorem rows_emb (h : Fin 8) (j : S128x2048.Idx) (k : Fin 2048) : (rows h).emb (ix2 (j 0) k) = ix2 ((rows h).emb j 0) k := by
  funext a
  refine Fin.ext ?_
  match a with
  | ⟨0, _⟩ => rfl
  | ⟨1, _⟩ => show 0 + 1 * k.val = k.val; omega

theorem block_rows (a : Vec Ideal S1024x2048 .bf16) (w : Vec Ideal S2048x2048 .bf16) (x : Vec Ideal S1024x2048 .f32) (g b : Vec Ideal S1x2048 .f32) (h : Fin 8) (j : S128x2048.Idx) :
    tile (View.ld a (rows h)) w (View.ld x (rows h)) g b j = block a w x g b ((rows h).emb j) := by
  have e1 : (rows h).emb j 1 = j 1 := Fin.ext (by show 0 + 1 * (j 1).val = (j 1).val; omega)
  have ea : (fun k : Fin 2048 => View.ld a (rows h) (ix2 (j 0) k)) = fun k => a (ix2 ((rows h).emb j 0) k) :=
    funext fun k => congrArg a (rows_emb h j k)
  have ex : (fun k : Fin 2048 => View.ld x (rows h) (ix2 (j 0) k)) = fun k => x (ix2 ((rows h).emb j 0) k) :=
    funext fun k => congrArg x (rows_emb h j k)
  show norm (pre (fun k => View.ld a (rows h) (ix2 (j 0) k)) _ (fun k => View.ld x (rows h) (ix2 (j 0) k))) _ _ (j 1)
    = norm (pre (fun k => a (ix2 ((rows h).emb j 0) k)) _ (fun k => x (ix2 ((rows h).emb j 0) k))) _ _ ((rows h).emb j 1)
  rw [ea, ex, e1]

variable (a : Vec Ideal S128x2048 .bf16) (w : Vec Ideal S2048x2048 .bf16) (x : Vec Ideal S128x2048 .f32) (g b : Vec Ideal S1x2048 .f32)

theorem tile0 (j : S128x2048.Idx) : k0_pay2 x a w g b j = tile a w x g b j := by
  unfold tile norm centred mean pre
  pointwise [k0_pay2]

theorem tile1 (j : S128x2048.Idx) : k0_pay4 (k0_pay3 x) a w g b j = tile a w x g b j := by
  unfold tile norm centred mean pre
  pointwise [k0_pay4, k0_pay3]

theorem tile2 (j : S128x2048.Idx) : k0_pay7 (k0_pay5 x) a (k0_pay6 w) g b j = tile a w x g b j := by
  unfold tile norm centred mean pre
  pointwise [k0_pay7, k0_pay5, k0_pay6]

theorem tile3 (j : S128x2048.Idx) : k0_pay10 (k0_pay8 x a w) (k0_pay9 x a w) (Scalar.ofBits .f32 0x45000000#32) g b j = tile a w x g b j := by
  unfold tile norm centred mean pre
  pointwise [k0_pay10, k0_pay8, k0_pay9]

theorem tile4 (j : S128x2048.Idx) : k0_pay13 (k0_pay11 x a w) (k0_pay12 x a w) g b j = tile a w x g b j := by
  unfold tile norm centred mean pre
  pointwise [k0_pay13, k0_pay11, k0_pay12]

theorem tile5 (j : S128x2048.Idx) : k0_pay16 (k0_pay14 x a w) (k0_pay15 x a w) g b j = tile a w x g b j := by
  unfold tile norm centred mean pre
  pointwise [k0_pay16, k0_pay14, k0_pay15]

theorem tile6 (j : S128x2048.Idx) : k0_pay19 (k0_pay17 x a w) (k0_pay18 g) b j = tile a w x g b j := by
  unfold tile norm centred mean pre
  pointwise [k0_pay19, k0_pay17, k0_pay18]

theorem tile7 (j : S128x2048.Idx) : k0_pay1 (k0_pay20 x a w g) (k0_pay21 b) j = tile a w x g b j := by
  unfold tile norm centred mean pre
  pointwise [k0_pay1, k0_pay20, k0_pay21]

omit a w x g b

/-- The body leaves every row of its block normalized. -/
theorem out_eq (a : Vec Ideal S1024x2048 .bf16) (w : Vec Ideal S2048x2048 .bf16) (x : Vec Ideal S1024x2048 .f32) (g b : Vec Ideal S1x2048 .f32) :
    out0_5 a w x g b = block a w x g b := by
  have hz : (![0, 0] : Fin 2 → ℕ) = fun _ => 0 := funext fun a => by fin_cases a <;> rfl
  have ew : View.ld w r0_1 = w := View.ld_unit_zero hz _ _
  have eg : View.ld g r0_2 = g := View.ld_unit_zero hz _ _
  have eb : View.ld b r0_2 = b := View.ld_unit_zero hz _ _
  funext y
  unfold out0_5
  rw [ew, eg, eb]
  refine View.canon_apply_of_pieces (block a w x g b) _ (fun p hp j => ?_) y (cover0_5 _ _ _ _ _ _ _ _ y)
  simp only [List.mem_cons, List.mem_nil_iff, or_false] at hp
  rcases hp with rfl | rfl | rfl | rfl | rfl | rfl | rfl | rfl
  · exact (tile7 (View.ld a (rows 7)) w (View.ld x (rows 7)) g b j).trans (block_rows a w x g b 7 j)
  · exact (tile6 (View.ld a (rows 6)) w (View.ld x (rows 6)) g b j).trans (block_rows a w x g b 6 j)
  · exact (tile5 (View.ld a (rows 5)) w (View.ld x (rows 5)) g b j).trans (block_rows a w x g b 5 j)
  · exact (tile4 (View.ld a (rows 4)) w (View.ld x (rows 4)) g b j).trans (block_rows a w x g b 4 j)
  · exact (tile3 (View.ld a (rows 3)) w (View.ld x (rows 3)) g b j).trans (block_rows a w x g b 3 j)
  · exact (tile2 (View.ld a (rows 2)) w (View.ld x (rows 2)) g b j).trans (block_rows a w x g b 2 j)
  · exact (tile1 (View.ld a (rows 1)) w (View.ld x (rows 1)) g b j).trans (block_rows a w x g b 1 j)
  · exact (tile0 (View.ld a (rows 0)) w (View.ld x (rows 0)) g b j).trans (block_rows a w x g b 0 j)

end Cert.Proof.OutProj

end
-- ==== Proof.OutProj.Array.lean ====
module

public import proofs.«01_k».proof.Proof.OutProj.Block

/-! # The output projection's array after the run

Sixteen points each take 1024 rows; together they leave every row of the array normalized. -/

@[expose] public section

set_option maxRecDepth 16384

noncomputable section

namespace Cert.Proof.OutProj

open Cert.Kernel3Ideal Cert.Kernel3Ideal.Gen Cert.Kernel3Ideal.Value
open Idealize.ShloMosaic Idealize.ShloMosaic.TcCoe
open Idealize.SL.Sem
open Idealize.ShloMosaic.Pipeline (Dat)

variable (m : (ℓ : Loc nD τ sig) → Buf (Elt Ideal) ℓ) (c : Dev nD)

theorem idx : ∀ t : Fin grid0.N, win0_0.index t = ![t.val, 0] ∧ win0_1.index t = ![0, 0] ∧ win0_2.index t = ![t.val, 0]
    ∧ win0_3.index t = ![0, 0] ∧ win0_4.index t = ![0, 0] ∧ win0_5.index t = ![t.val, 0] := by decide +kernel

/-- The weights as the host passes them on: without the axis of length one. -/
theorem V_w : V m c main_v1 = (truncf .bf16 (shapeCast S2048x2048 (m ((c : Thread nD τ).loc main_arg1) : FVec Ideal S1x2048x2048 .f32) shapeCasts_S1x2048x2048_S2048x2048 : FVec Ideal S2048x2048 .f32) bitsLt_bf16_f32) := by
  unfold V
  after_results
  rfl

theorem V_g : V m c main_v4 = (broadcastInDim S1x2048 ![1] bcast_S2048_S1x2048_1 (shapeCast S2048 (extractStridedSlice S1x2048 ![1, 0] (m ((c : Thread nD τ).loc main_arg3) : FVec Ideal S2x2048 .f32) slices_S2x2048_S1x2048_1_0 : FVec Ideal S1x2048 .f32) shapeCasts_S1x2048_S2048 : FVec Ideal S2048 .f32) : FVec Ideal S1x2048 .f32) := by
  unfold V
  after_results
  rfl

theorem V_b : V m c main_v7 = (broadcastInDim S1x2048 ![1] bcast_S2048_S1x2048_1 (shapeCast S2048 (extractStridedSlice S1x2048 ![1, 0] (m ((c : Thread nD τ).loc main_arg4) : FVec Ideal S2x2048 .f32) slices_S2x2048_S1x2048_1_0 : FVec Ideal S1x2048 .f32) shapeCasts_S1x2048_S2048 : FVec Ideal S2048 .f32) : FVec Ideal S1x2048 .f32) := by
  unfold V
  after_results
  rfl

theorem w_pt (x : FVec Ideal S1x2048x2048 .f32) (k j : Fin 2048) :
    (truncf .bf16 (shapeCast S2048x2048 x shapeCasts_S1x2048x2048_S2048x2048 : FVec Ideal S2048x2048 .f32) bitsLt_bf16_f32 : FVec Ideal S2048x2048 .bf16) (ix2 k j) = x (ix3 0 k j) := by
  pointwise

theorem row_pt (x : FVec Ideal S2x2048 .f32) (j : Fin 2048) :
    (broadcastInDim S1x2048 ![1] bcast_S2048_S1x2048_1 (shapeCast S2048 (extractStridedSlice S1x2048 ![1, 0] x slices_S2x2048_S1x2048_1_0 : FVec Ideal S1x2048 .f32) shapeCasts_S1x2048_S2048 : FVec Ideal S2048 .f32) : FVec Ideal S1x2048 .f32) (ix2 0 j) = x (ix2 1 j) := by
  pointwise

theorem blk_a (t : Fin cfg0.N) (r : Fin 1024) (k : Fin 2048) : (iblk m c 0 t : S1024x2048.Idx → EReal) (ix2 r k)
    = (V m c main_arg0 : S16384x2048.Idx → EReal) (ix2 (⟨1024 * t.val + r.val, by have : t.val < 16 := t.isLt; omega⟩ : Fin 16384) k) := by
  blk_ext [iblk, idx t]

theorem blk_w (t : Fin cfg0.N) (k j : Fin 2048) : (iblk m c 1 t : S2048x2048.Idx → EReal) (ix2 k j)
    = (m ((c : Thread nD τ).loc main_arg1) : S1x2048x2048.Idx → EReal) (ix3 0 k j) := by
  refine Eq.trans (b := (V m c main_v1 : S2048x2048.Idx → EReal) (ix2 k j)) ?_ ((congrFun (V_w m c) (ix2 k j)).trans (w_pt _ k j))
  blk_ext [iblk, idx t]

theorem blk_x (t : Fin cfg0.N) (r : Fin 1024) (k : Fin 2048) : (iblk m c 2 t : S1024x2048.Idx → EReal) (ix2 r k)
    = (V m c main_arg2 : S16384x2048.Idx → EReal) (ix2 (⟨1024 * t.val + r.val, by have : t.val < 16 := t.isLt; omega⟩ : Fin 16384) k) := by
  blk_ext [iblk, idx t]

theorem blk_g (t : Fin cfg0.N) (j : Fin 2048) : (iblk m c 3 t : S1x2048.Idx → EReal) (ix2 0 j)
    = (m ((c : Thread nD τ).loc main_arg3) : S2x2048.Idx → EReal) (ix2 1 j) := by
  refine Eq.trans (b := (V m c main_v4 : S1x2048.Idx → EReal) (ix2 0 j)) ?_ ((congrFun (V_g m c) (ix2 0 j)).trans (row_pt _ j))
  blk_ext [iblk, idx t]

theorem blk_b (t : Fin cfg0.N) (j : Fin 2048) : (iblk m c 4 t : S1x2048.Idx → EReal) (ix2 0 j)
    = (m ((c : Thread nD τ).loc main_arg4) : S2x2048.Idx → EReal) (ix2 1 j) := by
  refine Eq.trans (b := (V m c main_v7 : S1x2048.Idx → EReal) (ix2 0 j)) ?_ ((congrFun (V_b m c) (ix2 0 j)).trans (row_pt _ j))
  blk_ext [iblk, idx t]

/-- The layer's output: every row of the sum of the scaled input and the product, normalized. -/
def layerOut (a : S16384x2048.Idx → EReal) (w : S1x2048x2048.Idx → EReal) (x : S16384x2048.Idx → EReal) (g b : S2x2048.Idx → EReal) : S16384x2048.Idx → EReal :=
  fun y => norm (pre (fun k => a (ix2 (y 0) k)) (fun k j => w (ix3 0 k j)) (fun k => x (ix2 (y 0) k))) (fun k => g (ix2 1 k)) (fun k => b (ix2 1 k)) (y 1)

/-- A point's block, cut out of the layer's output. -/
theorem block_at (t : Fin cfg0.N) (y : S1024x2048.Idx) (z : S16384x2048.Idx) (h0 : (z 0).val = 1024 * t.val + (y 0).val) (h1 : (z 1).val = (y 1).val) :
    block (iblk m c 0 t) (iblk m c 1 t) (iblk m c 2 t) (iblk m c 3 t) (iblk m c 4 t) y
      = layerOut (m ((c : Thread nD τ).loc main_arg0)) (m ((c : Thread nD τ).loc main_arg1)) (m ((c : Thread nD τ).loc main_arg2))
        (m ((c : Thread nD τ).loc main_arg3)) (m ((c : Thread nD τ).loc main_arg4)) z := by
  have er : (⟨1024 * t.val + (y 0).val, by have : t.val < 16 := t.isLt; have : (y 0).val < 1024 := (y 0).isLt; omega⟩ : Fin 16384) = z 0 := Fin.ext h0.symm
  have ec : y 1 = z 1 := Fin.ext h1.symm
  have ea : (fun k : Fin 2048 => (iblk m c 0 t : S1024x2048.Idx → EReal) (ix2 (y 0) k)) = fun k => (m ((c : Thread nD τ).loc main_arg0) : S16384x2048.Idx → EReal) (ix2 (z 0) k) :=
    funext fun k => (blk_a m c t (y 0) k).trans ((congrFun (V_main_arg0 m c) _).trans (congrArg (fun i : Fin 16384 => (m ((c : Thread nD τ).loc main_arg0) : S16384x2048.Idx → EReal) (ix2 i k)) er))
  have ex : (fun k : Fin 2048 => (iblk m c 2 t : S1024x2048.Idx → EReal) (ix2 (y 0) k)) = fun k => (m ((c : Thread nD τ).loc main_arg2) : S16384x2048.Idx → EReal) (ix2 (z 0) k) :=
    funext fun k => (blk_x m c t (y 0) k).trans ((congrFun (V_main_arg2 m c) _).trans (congrArg (fun i : Fin 16384 => (m ((c : Thread nD τ).loc main_arg2) : S16384x2048.Idx → EReal) (ix2 i k)) er))
  have ew : (fun k j : Fin 2048 => (iblk m c 1 t : S2048x2048.Idx → EReal) (ix2 k j)) = fun k j => (m ((c : Thread nD τ).loc main_arg1) : S1x2048x2048.Idx → EReal) (ix3 0 k j) :=
    funext fun k => funext fun j => blk_w m c t k j
  have eg : (fun j : Fin 2048 => (iblk m c 3 t : S1x2048.Idx → EReal) (ix2 0 j)) = fun j => (m ((c : Thread nD τ).loc main_arg3) : S2x2048.Idx → EReal) (ix2 1 j) :=
    funext fun j => blk_g m c t j
  have eb : (fun j : Fin 2048 => (iblk m c 4 t : S1x2048.Idx → EReal) (ix2 0 j)) = fun j => (m ((c : Thread nD τ).loc main_arg4) : S2x2048.Idx → EReal) (ix2 1 j) :=
    funext fun j => blk_b m c t j
  unfold block layerOut
  rw [ea, ex, ew, eg, eb, ec]

/-- The output projection's array after the run. -/
theorem arr_eq : (dats m 0 c).arrAt 5 cfg0.N = layerOut (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5, out_eq]
  obtain ⟨-, -, -, -, -, e5⟩ := idx t
  have h0 : win0_5.index t 0 = t.val := congrFun e5 0
  have h1 : win0_5.index t 1 = 0 := congrFun e5 1
  refine block_at m c t y _ ?_ ?_
  · show win0_5.index t 0 * 1024 + 1 * (y 0).val = _
    omega
  · show win0_5.index t 1 * 2048 + 1 * (y 1).val = _
    omega

end Cert.Proof.OutProj

end
-- ==== Proof.OutProj.Ref.lean ====
module

public import proofs.«01_k».proof.Proof.Gen.Reference3Ideal.Read
public import proofs.«01_k».proof.Proof.OutProj.Array

/-! # The reference's output at an index -/

@[expose] public section

set_option maxRecDepth 16384

noncomputable section

namespace Cert.Proof.OutProj

open Cert.Reference3Ideal Cert.Reference3Ideal.Read
open Idealize.ShloMosaic Idealize.ShloMosaic.TcCoe
open Idealize.SL.Sem

variable (a : FVec Ideal S16384x2048 .bf16) (w : FVec Ideal S1x2048x2048 .f32) (x : FVec Ideal S16384x2048 .f32) (g b : FVec Ideal S2x2048 .f32)

/-- Row `t` before the normalization. -/
abbrev row (t : Fin 16384) : Fin 2048 → EReal := pre (fun k => a (ix2 t k)) (fun k j => w (ix3 0 k j)) (fun k => x (ix2 t k))

theorem pre_at (y : S16384x2048.Idx) : val_main_v5 (F := Ideal) a w x y = row a w x (y 0) (y 1) := by
  pointwise [val_main_v5, val_main_v4, val_main_v3, val_main_v2, val_main_v1, val_main_v0, val_main_cst, row, pre]

theorem mean_at (y : S16384x1.Idx) : val_main_v9 (F := Ideal) a w x y = mean (row a w x (y 0)) := by
  pointwise [val_main_v9, val_main_v8, val_main_v7, val_main_v6, val_main_cst_1, val_main_cst_0, pre_at, mean]

theorem centred_at (y : S16384x2048.Idx) : val_main_v11 (F := Ideal) a w x y = centred (row a w x (y 0)) (y 1) := by
  pointwise [val_main_v11, val_main_v10, pre_at, mean_at, centred]

theorem var_at (y : S16384x1.Idx) : val_main_v16 (F := Ideal) a w x y = mean (fun k => centred (row a w x (y 0)) k * centred (row a w x (y 0)) k) := by
  pointwise [val_main_v16, val_main_v15, val_main_v14, val_main_v13, val_main_v12, val_main_cst_3, val_main_cst_2, centred_at, mean]

theorem rsqrt_at (y : S16384x1.Idx) : val_main_v19 (F := Ideal) a w x y
    = Ideal.rsqrt (mean (fun k => centred (row a w x (y 0)) k * centred (row a w x (y 0)) k) + Ideal.ofBits .f32 0x3727C5AC#32) := by
  pointwise [val_main_v19, val_main_v18, val_main_v17, val_main_cst_4, var_at]

theorem g_at (y : S16384x2048.Idx) : val_main_v25 (F := Ideal) g y = g (ix2 1 (y 1)) := by
  pointwise [val_main_v25, val_main_v24, val_main_v23, val_main_v22]

theorem b_at (y : S16384x2048.Idx) : val_main_v30 (F := Ideal) b y = b (ix2 1 (y 1)) := by
  pointwise [val_main_v30, val_main_v29, val_main_v28, val_main_v27]

theorem ref_eq : val_main_v31 (F := Ideal) a w x g b = layerOut a w x g b := by
  funext y
  pointwise [val_main_v31, val_main_v26, val_main_v21, val_main_v20, centred_at, rsqrt_at, g_at, b_at, layerOut, norm]

end Cert.Proof.OutProj

end
-- ==== Proof.Layers.lean ====
module

public import proofs.«01_k».proof.Defs
public import proofs.«01_k».proof.Proof.Gen.Kernel2.Frame
public import proofs.«01_k».proof.Proof.Gen.Kernel3.Frame
public import proofs.«01_k».proof.Proof.InProj.Ref
public import proofs.«01_k».proof.Proof.OutProj.Ref
public import Idealize.ShloMosaic.Lib.Quiescent

/-! # The claims of the two projections

Each kernel's array and its reference's value are one function of the arguments. -/

@[expose] public section

set_option maxRecDepth 16384

noncomputable section

namespace Cert.Proof

open Idealize.ShloMosaic Idealize.ShloMosaic.TcCoe Idealize.SL.Sem

namespace InProj

theorem frame_p : Cert.quiescent_Kernel2 := fun m g _ => Cert.Kernel2.Gen.frame m g

theorem frame_pi : Cert.quiescent_Kernel2Ideal := fun m g _ => Cert.Kernel2Ideal.Gen.frame m g

theorem frame_ri : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

theorem preserves : Cert.preserves_Kernel2_Kernel2Ideal := trivial

/-- The input projection's array is the reference's. -/
theorem algebraic : Cert.algebraic_Kernel2Ideal_Reference2Ideal := by
  intro m g m' g' _ hagree
  refine ⟨fun c => (Cert.Kernel2Ideal.Gen.dats m 0 c).arrAt 3 Cert.Kernel2Ideal.cfg0.N, Cert.Kernel2Ideal.Value.run_blocks m g, ?_⟩
  refine (θ_run Cert.Reference2Ideal.defs _ _).mono (fun _ h c => ⟨(h c).1.trans ?_, (h c).2⟩) (Cert.Reference2Ideal.Value.run (F := Ideal) m' g')
  refine (Cert.Reference2Ideal.Read.val_main_v11_eq (F := Ideal) _ _).trans ?_
  rw [(hagree c).1, (hagree c).2]
  exact (ref_eq _ _).trans (arr_eq m c).symm

end InProj

namespace OutProj

theorem frame_p : Cert.quiescent_Kernel3 := fun m g _ => Cert.Kernel3.Gen.frame m g

theorem frame_pi : Cert.quiescent_Kernel3Ideal := fun m g _ => Cert.Kernel3Ideal.Gen.frame m g

theorem frame_ri : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

theorem preserves : Cert.preserves_Kernel3_Kernel3Ideal := trivial

/-- The output projection's normalized array is the reference's. -/
theorem algebraic : Cert.algebraic_Kernel3Ideal_Reference3Ideal := by
  intro m g m' g' _ hagree
  refine ⟨fun c => (Cert.Kernel3Ideal.Gen.dats m 0 c).arrAt 5 Cert.Kernel3Ideal.cfg0.N, Cert.Kernel3Ideal.Value.run_blocks m g, ?_⟩
  refine (θ_run Cert.Reference3Ideal.defs _ _).mono (fun _ h c => ⟨(h c).1.trans ?_, (h c).2⟩) (Cert.Reference3Ideal.Value.run (F := Ideal) m' g')
  refine (Cert.Reference3Ideal.Read.val_main_v31_eq (F := Ideal) m' c).trans ?_
  obtain ⟨h0, h1, h2, h3, h4⟩ := hagree c
  rw [h0, h1, h2, h3, h4]
  exact (ref_eq _ _ _ _ _).trans (arr_eq m c).symm

end OutProj

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2.Value
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Read
public import proofs.«01_k».proof.Proof.Gen.Kernel3
public import proofs.«01_k».proof.Proof.Gen.Kernel3.Value
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Read
public import proofs.«01_k».proof.Proof.B.Run
public import proofs.«01_k».proof.Proof.K.Run
public import proofs.«01_k».proof.Proof.Algebraic
public import proofs.«01_k».proof.Proof.Layers
public import Idealize.ShloMosaic.Adequacy
public import Idealize.ShloMosaic.Init

@[expose] public section

noncomputable section

namespace Cert.Proof

open Idealize.ShloMosaic Idealize.SL.Sem

/-- The kernel as compiled terminates, leaves its argument, and leaves every semaphore at zero. -/
theorem frame_p : Cert.quiescent_Kernel := fun m g _ =>
  (θ_run Cert.Kernel.defs _ _).mono (fun _ h => ⟨fun c => (h.1 c).2, h.2⟩) (B.run_main m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite.Gen.facts,
  frame_p, frame_pi, frame_pi_finite, frame_ri, frame_ri_finite,
  InProj.frame_p, InProj.frame_pi, InProj.frame_ri, OutProj.frame_p, OutProj.frame_pi, OutProj.frame_ri,
  preserves, algebraic, InProj.preserves, InProj.algebraic, OutProj.preserves, OutProj.algebraic⟩

end Cert.Proof

end
